-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x32 : Shape := ⟨2, ![768, 32]⟩
abbrev S32 : Shape := ⟨1, ![32]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S1x2048x768 .f32) (main_arg1 : FVec F S768x2304 .f32) (main_arg2 : FVec F S2304 .f32) (main_arg3 : FVec F S768x768 .f32) (main_arg4 : FVec F S768 .f32) (main_arg5 : FVec F S768x32 .f32) (main_arg6 : FVec F S32 .f32) (main_arg7 : FVec F S768x32 .f32) (main_arg8 : FVec F S32 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x32 : Shape := ⟨2, ![768, 32]⟩
abbrev S32 : Shape := ⟨1, ![32]⟩
abbrev S2048x768 : Shape := ⟨2, ![2048, 768]⟩
abbrev S_ : Shape := ⟨0, ![]⟩
abbrev S1536 : Shape := ⟨1, ![1536]⟩
abbrev S1x2304 : Shape := ⟨2, ![1, 2304]⟩
abbrev S2048x2304 : Shape := ⟨2, ![2048, 2304]⟩
abbrev S512x768 : Shape := ⟨2, ![512, 768]⟩
abbrev S512x2304 : Shape := ⟨2, ![512, 2304]⟩
abbrev S1x768 : Shape := ⟨2, ![1, 768]⟩
abbrev S512x128 : Shape := ⟨2, ![512, 128]⟩
abbrev S512x512 : Shape := ⟨2, ![512, 512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x32, .f32⟩
  | .hbm, ⟨6, _⟩ => ⟨S32, .f32⟩
  | .hbm, ⟨7, _⟩ => ⟨S768x32, .f32⟩
  | .hbm, ⟨8, _⟩ => ⟨S32, .f32⟩
  | .hbm, ⟨9, _⟩ => ⟨S2048x768, .f32⟩
  | .hbm, ⟨10, _⟩ => ⟨S_, .f32⟩
  | .hbm, ⟨11, _⟩ => ⟨S768, .f32⟩
  | .hbm, ⟨12, _⟩ => ⟨S_, .f32⟩
  | .hbm, ⟨13, _⟩ => ⟨S1536, .f32⟩
  | .hbm, ⟨14, _⟩ => ⟨S2304, .f32⟩
  | .hbm, ⟨15, _⟩ => ⟨S1x2304, .f32⟩
  | .hbm, ⟨16, _⟩ => ⟨S1x2304, .f32⟩
  | .hbm, ⟨17, _⟩ => ⟨S2048x2304, .bf16⟩
  | .hbm, ⟨18, _⟩ => ⟨S768x768, .bf16⟩
  | .hbm, ⟨19, _⟩ => ⟨S1x768, .f32⟩
  | .hbm, ⟨20, _⟩ => ⟨S2048x768, .f32⟩
  | .hbm, ⟨21, _⟩ => ⟨S1x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S1x2304, .f32⟩
  | .local _ .vmem, ⟨4, _⟩ => ⟨S1x2304, .f32⟩
  | .local _ .vmem, ⟨5, _⟩ => ⟨S512x2304, .bf16⟩
  | .local _ .vmem, ⟨6, _⟩ => ⟨S512x2304, .bf16⟩
  | .local _ .vmem, ⟨7, _⟩ => ⟨S512x768, .bf16⟩
  | .local _ .vmem, ⟨8, _⟩ => ⟨S512x768, .bf16⟩
  | .local _ .vmem, ⟨9, _⟩ => ⟨S2048x768, .bf16⟩
  | .local _ .vmem, ⟨10, _⟩ => ⟨S2048x768, .bf16⟩
  | .local _ .vmem, ⟨11, _⟩ => ⟨S768x768, .bf16⟩
  | .local _ .vmem, ⟨12, _⟩ => ⟨S1x768, .f32⟩
  | .local _ .vmem, ⟨13, _⟩ => ⟨S512x768, .f32⟩
  | .local _ .vmem, ⟨14, _⟩ => ⟨S512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![1, 4], ![false, false]⟩

@[reducible] def k1_t1_loop (i : grid1.Coords) : Scf.Loop 32 :=
  let c0_i32_30 : BitVec 32 := 0#32
  let arg1 : BitVec 32 := BitVec.ofNat 32 (i 1).val
  let c512_i32 : BitVec 32 := 512#32
  let v65 : BitVec 32 := Scalar.muli arg1 c512_i32
  let c0_i32 : BitVec 32 := 0#32
  let v67 : BitVec 1 := Scalar.cmpi .sgt v65 c0_i32
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c512_i32_24 : BitVec 32 := 512#32
  let c0_i32_26 : BitVec 32 := 0#32
  let v72 : BitVec 1 := Scalar.cmpi .sgt c512_i32_24 c0_i32_26
  let v73 : BitVec 32 := Scalar.extui v72
  let c0_i32_27 : BitVec 32 := 0#32
  let v74 : BitVec 1 := Scalar.cmpi .slt c512_i32_24 c0_i32_27
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_28 : BitVec 32 := 0#32
  let v79 : BitVec 1 := Scalar.cmpi .ne v78 c0_i32_28
  let v80 : BitVec 1 := Scalar.andi v77 v79
  let v66 : BitVec 32 := Scalar.divsi v65 c512_i32_24
  let c1_i32 : BitVec 32 := 1#32
  let v81 : BitVec 32 := Scalar.subi v66 c1_i32
  let v82 : BitVec 32 := Scalar.select v80 v81 v66
  let v83 : BitVec 32 := Scalar.subi v82 c0_i32_30
  let c1_i32_31 : BitVec 32 := 1#32
  let v85 : BitVec 32 := Scalar.divsi v83 c1_i32_31
  let v86 : BitVec 32 := Scalar.muli v85 c1_i32_31
  let v87 : BitVec 32 := Scalar.addi c0_i32_30 v86
  let c1_i32_32 : BitVec 32 := 1#32
  ⟨c0_i32_30, v87, c1_i32_32⟩
def k1_off1 (i : grid1.Coords) (k1_t1 : Fin (k1_t1_loop i).trips) : Fin 2 → Nat :=
  let c0_i32_30 : BitVec 32 := 0#32
  let c1_i32_32 : BitVec 32 := 1#32
  let arg8 : BitVec 32 := Scf.iv c0_i32_30 c1_i32_32 k1_t1
  let c512_i32_114 : BitVec 32 := 512#32
  let v332 : BitVec 32 := Scalar.muli arg8 c512_i32_114
  let v333 : Index := Scalar.indexCast v332
  let c0_115 : Index := 0#32
  ![v333.toNat, 0]
@[reducible] def k1_t2_loop (i : grid1.Coords) : Scf.Loop 32 :=
  let c0_i32_30 : BitVec 32 := 0#32
  let arg1 : BitVec 32 := BitVec.ofNat 32 (i 1).val
  let c512_i32 : BitVec 32 := 512#32
  let v65 : BitVec 32 := Scalar.muli arg1 c512_i32
  let c0_i32 : BitVec 32 := 0#32
  let v67 : BitVec 1 := Scalar.cmpi .sgt v65 c0_i32
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c512_i32_24 : BitVec 32 := 512#32
  let c0_i32_26 : BitVec 32 := 0#32
  let v72 : BitVec 1 := Scalar.cmpi .sgt c512_i32_24 c0_i32_26
  let v73 : BitVec 32 := Scalar.extui v72
  let c0_i32_27 : BitVec 32 := 0#32
  let v74 : BitVec 1 := Scalar.cmpi .slt c512_i32_24 c0_i32_27
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_28 : BitVec 32 := 0#32
  let v79 : BitVec 1 := Scalar.cmpi .ne v78 c0_i32_28
  let v80 : BitVec 1 := Scalar.andi v77 v79
  let v66 : BitVec 32 := Scalar.divsi v65 c512_i32_24
  let c1_i32 : BitVec 32 := 1#32
  let v81 : BitVec 32 := Scalar.subi v66 c1_i32
  let v82 : BitVec 32 := Scalar.select v80 v81 v66
  let v83 : BitVec 32 := Scalar.subi v82 c0_i32_30
  let c1_i32_31 : BitVec 32 := 1#32
  let v85 : BitVec 32 := Scalar.divsi v83 c1_i32_31
  let v86 : BitVec 32 := Scalar.muli v85 c1_i32_31
  let v87 : BitVec 32 := Scalar.addi c0_i32_30 v86
  let v84 : BitVec 32 := Scalar.addi c0_i32_30 v83
  let c1_i32_33 : BitVec 32 := 1#32
  ⟨v87, v84, c1_i32_33⟩
def k1_off2 (i : grid1.Coords) (k1_t2 : Fin (k1_t2_loop i).trips) : Fin 2 → Nat :=
  let c0_i32_30 : BitVec 32 := 0#32
  let arg1 : BitVec 32 := BitVec.ofNat 32 (i 1).val
  let c512_i32 : BitVec 32 := 512#32
  let v65 : BitVec 32 := Scalar.muli arg1 c512_i32
  let c0_i32 : BitVec 32 := 0#32
  let v67 : BitVec 1 := Scalar.cmpi .sgt v65 c0_i32
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c512_i32_24 : BitVec 32 := 512#32
  let c0_i32_26 : BitVec 32 := 0#32
  let v72 : BitVec 1 := Scalar.cmpi .sgt c512_i32_24 c0_i32_26
  let v73 : BitVec 32 := Scalar.extui v72
  let c0_i32_27 : BitVec 32 := 0#32
  let v74 : BitVec 1 := Scalar.cmpi .slt c512_i32_24 c0_i32_27
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_28 : BitVec 32 := 0#32
  let v79 : BitVec 1 := Scalar.cmpi .ne v78 c0_i32_28
  let v80 : BitVec 1 := Scalar.andi v77 v79
  let v66 : BitVec 32 := Scalar.divsi v65 c512_i32_24
  let c1_i32 : BitVec 32 := 1#32
  let v81 : BitVec 32 := Scalar.subi v66 c1_i32
  let v82 : BitVec 32 := Scalar.select v80 v81 v66
  let v83 : BitVec 32 := Scalar.subi v82 c0_i32_30
  let c1_i32_31 : BitVec 32 := 1#32
  let v85 : BitVec 32 := Scalar.divsi v83 c1_i32_31
  let v86 : BitVec 32 := Scalar.muli v85 c1_i32_31
  let v87 : BitVec 32 := Scalar.addi c0_i32_30 v86
  let c1_i32_33 : BitVec 32 := 1#32
  let arg8 : BitVec 32 := Scf.iv v87 c1_i32_33 k1_t2
  let c512_i32_114 : BitVec 32 := 512#32
  let v332 : BitVec 32 := Scalar.muli arg8 c512_i32_114
  let v333 : Index := Scalar.indexCast v332
  let c0_115 : Index := 0#32
  ![v333.toNat, 0]
def k1_off3 (i : grid1.Coords) : Fin 2 → Nat :=
  let arg1 : BitVec 32 := BitVec.ofNat 32 (i 1).val
  let c512_i32 : BitVec 32 := 512#32
  let v65 : BitVec 32 := Scalar.muli arg1 c512_i32
  let c0_i32 : BitVec 32 := 0#32
  let v67 : BitVec 1 := Scalar.cmpi .sgt v65 c0_i32
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c512_i32_24 : BitVec 32 := 512#32
  let c0_i32_26 : BitVec 32 := 0#32
  let v72 : BitVec 1 := Scalar.cmpi .sgt c512_i32_24 c0_i32_26
  let v73 : BitVec 32 := Scalar.extui v72
  let c0_i32_27 : BitVec 32 := 0#32
  let v74 : BitVec 1 := Scalar.cmpi .slt c512_i32_24 c0_i32_27
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_28 : BitVec 32 := 0#32
  let v79 : BitVec 1 := Scalar.cmpi .ne v78 c0_i32_28
  let v80 : BitVec 1 := Scalar.andi v77 v79
  let v66 : BitVec 32 := Scalar.divsi v65 c512_i32_24
  let c1_i32 : BitVec 32 := 1#32
  let v81 : BitVec 32 := Scalar.subi v66 c1_i32
  let v82 : BitVec 32 := Scalar.select v80 v81 v66
  let c0_i32_34 : BitVec 32 := 0#32
  let v90 : BitVec 32 := Scalar.addi v82 c0_i32_34
  let c512_i32_35 : BitVec 32 := 512#32
  let v91 : BitVec 32 := Scalar.muli v90 c512_i32_35
  let v92 : Index := Scalar.indexCast v91
  let c0_36 : Index := 0#32
  ![v92.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S2048x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x32 : Shape := ⟨2, ![768, 32]⟩
abbrev S32 : Shape := ⟨1, ![32]⟩
abbrev S1x2048x2304 : Shape := ⟨3, ![1, 2048, 2304]⟩
abbrev S1x1x2304 : Shape := ⟨3, ![1, 1, 2304]⟩
abbrev S1x2048x12x64 : Shape := ⟨4, ![1, 2048, 12, 64]⟩
abbrev S1x12x2048x64 : Shape := ⟨4, ![1, 12, 2048, 64]⟩
abbrev S1x12x2048x2048 : Shape := ⟨4, ![1, 12, 2048, 2048]⟩
abbrev S_ : Shape := ⟨0, ![]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x1x768 : Shape := ⟨3, ![1, 1, 768]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x32, .f32⟩
  | .hbm, ⟨6, _⟩ => ⟨S32, .f32⟩
  | .hbm, ⟨7, _⟩ => ⟨S768x32, .f32⟩
  | .hbm, ⟨8, _⟩ => ⟨S32, .f32⟩
  | .hbm, ⟨9, _⟩ => ⟨S1x2048x2304, .f32⟩
  | .hbm, ⟨10, _⟩ => ⟨S1x1x2304, .f32⟩
  | .hbm, ⟨11, _⟩ => ⟨S1x2048x2304, .f32⟩
  | .hbm, ⟨12, _⟩ => ⟨S1x2048x2304, .f32⟩
  | .hbm, ⟨13, _⟩ => ⟨S1x2048x768, .f32⟩
  | .hbm, ⟨14, _⟩ => ⟨S1x2048x768, .f32⟩
  | .hbm, ⟨15, _⟩ => ⟨S1x2048x768, .f32⟩
  | .hbm, ⟨16, _⟩ => ⟨S1x2048x12x64, .f32⟩
  | .hbm, ⟨17, _⟩ => ⟨S1x12x2048x64, .f32⟩
  | .hbm, ⟨18, _⟩ => ⟨S1x2048x12x64, .f32⟩
  | .hbm, ⟨19, _⟩ => ⟨S1x12x2048x64, .f32⟩
  | .hbm, ⟨20, _⟩ => ⟨S1x2048x12x64, .f32⟩
  | .hbm, ⟨21, _⟩ => ⟨S1x12x2048x64, .f32⟩
  | .hbm, ⟨22, _⟩ => ⟨S1x12x2048x2048, .f32⟩
  | .hbm, ⟨23, _⟩ => ⟨S_, .f32⟩
  | .hbm, ⟨24, _⟩ => ⟨S1x12x2048x2048, .f32⟩
  | .hbm, ⟨25, _⟩ => ⟨S1x12x2048x2048, .f32⟩
  | .hbm, ⟨26, _⟩ => ⟨S_, .i1⟩
  | .hbm, ⟨27, _⟩ => ⟨S2048x2048, .i1⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .i1⟩
  | .hbm, ⟨35, _⟩ => ⟨S2048x2048, .i1⟩
  | .hbm, ⟨36, _⟩ => ⟨S2048x2048, .i1⟩
  | .hbm, ⟨37, _⟩ => ⟨S1x1x2048x2048, .i1⟩
  | .hbm, ⟨38, _⟩ => ⟨S_, .f32⟩
  | .hbm, ⟨39, _⟩ => ⟨S_, .f32⟩
  | .hbm, ⟨40, _⟩ => ⟨S1x12x2048x2048, .i1⟩
  | .hbm, ⟨41, _⟩ => ⟨S1x12x2048x2048, .f32⟩
  | .hbm, ⟨42, _⟩ => ⟨S1x12x2048x2048, .f32⟩
  | .hbm, ⟨43, _⟩ => ⟨S_, .f32⟩
  | .hbm, ⟨44, _⟩ => ⟨S1x12x2048, .f32⟩
  | .hbm, ⟨45, _⟩ => ⟨S_, .f32⟩
  | .hbm, ⟨46, _⟩ => ⟨S1x12x2048, .f32⟩
  | .hbm, ⟨47, _⟩ => ⟨S1x12x2048, .f32⟩
  | .hbm, ⟨48, _⟩ => ⟨S1x12x2048x1, .f32⟩
  | .hbm, ⟨49, _⟩ => ⟨S1x12x2048x2048, .f32⟩
  | .hbm, ⟨50, _⟩ => ⟨S1x12x2048x2048, .f32⟩
  | .hbm, ⟨51, _⟩ => ⟨S1x12x2048x2048, .f32⟩
  | .hbm, ⟨52, _⟩ => ⟨S_, .f32⟩
  | .hbm, ⟨53, _⟩ => ⟨S1x12x2048, .f32⟩
  | .hbm, ⟨54, _⟩ => ⟨S1x12x2048x1, .f32⟩
  | .hbm, ⟨55, _⟩ => ⟨S1x12x2048x2048, .f32⟩
  | .hbm, ⟨56, _⟩ => ⟨S1x12x2048x2048, .f32⟩
  | .hbm, ⟨57, _⟩ => ⟨S1x12x2048x64, .f32⟩
  | .hbm, ⟨58, _⟩ => ⟨S1x2048x12x64, .f32⟩
  | .hbm, ⟨59, _⟩ => ⟨S1x2048x768, .f32⟩
  | .hbm, ⟨60, _⟩ => ⟨S1x2048x768, .f32⟩
  | .hbm, ⟨61, _⟩ => ⟨S1x1x768, .f32⟩
  | .hbm, ⟨62, _⟩ => ⟨S1x2048x768, .f32⟩
  | .hbm, ⟨63, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Proof.K.Pre.lean ====
/- The precondition `finite_inputs`, read: its stated facts proved, and what it says of the first three argument
   arrays, element by element. -/
module

public import proofs.«01_k».proof.Pre_finite_inputs
public import Idealize.ShloMosaic.Lib.ReduceAll
public import Idealize.ShloMosaic.Lib.Pointwise
public import Idealize.ShloMosaic.PureOps.Ideal

@[expose] public section

set_option maxRecDepth 16384

noncomputable section

namespace Cert.Pre_finite_inputs.Val

open Idealize.ShloMosaic Cert.Pre_finite_inputs

/-- The side conditions of the predicate's operations. -/
instance facts : Cert.Pre_finite_inputs.Facts where
  bcast_S_S1x2048x768 := by decide
  reducesTo_S1x2048x768_S_d0_1_2 := by decide
  h_S_ := by decide
  bcast_S_S768x2304 := by decide
  reducesTo_S768x2304_S_d0_1 := by decide
  bcast_S_S2304 := by decide
  reducesTo_S2304_S_d0 := by decide

/-- The pattern of positive infinity denotes the top of the extended reals. -/
theorem ofBits_inf : Ideal.ofBits .f32 0x7F800000#32 = (⊤ : EReal) := by
  simp [Ideal.ofBits, Ideal.ieee]

instance : Subsingleton S_.Idx := ⟨fun a b => funext fun d => d.elim0⟩

/-- One array's part of the predicate: the conjunction over its elements of `|x| < ∞` being one says that every
    element is a real number. -/
theorem finite_of_all {s : Shape} {axes : List (Fin s.rank)} (x : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1)
    (i : s.Idx) : x i ≠ ⊥ ∧ x i ≠ ⊤ := by
  have := Host.reduce_andi_all _ _ _ _ _ e i
  pointwise [ofBits_inf] at this
  have hlt : FloatOps.absf (x i) < (⊤ : EReal) := by
    by_contra hc
    rw [decide_eq_false hc] at this
    exact absurd this (by decide)
  constructor
  · intro h0; rw [h0] at hlt; revert hlt; simp [FloatOps.absf]
  · intro h0; rw [h0] at hlt; revert hlt; simp [FloatOps.absf]

/-- What the precondition says: the tokens, the projection's weights and its bias are real numbers. -/
theorem finite (a0 : FVec Ideal S1x2048x768 .f32) (a1 : FVec Ideal S768x2304 .f32) (a2 : FVec Ideal S2304 .f32)
    (a3 : FVec Ideal S768x768 .f32) (a4 : FVec Ideal S768 .f32) (a5 : FVec Ideal S768x32 .f32) (a6 : FVec Ideal S32 .f32)
    (a7 : FVec Ideal S768x32 .f32) (a8 : FVec Ideal S32 .f32)
    (h : fn (F := Ideal) a0 a1 a2 a3 a4 a5 a6 a7 a8 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) := by
  have e := congrFun h (fun d => d.elim0)
  unfold fn at e
  obtain ⟨e01, e2⟩ := IntOp.andi_eq_one.1 e
  obtain ⟨e0, e1⟩ := IntOp.andi_eq_one.1 e01
  exact ⟨finite_of_all a0 _ _ _ _ _ e0, finite_of_all a1 _ _ _ _ _ e1, finite_of_all a2 _ _ _ _ _ e2⟩

end Cert.Pre_finite_inputs.Val

end
-- ==== Proof.K.Run.lean ====
/- The run of the idealized kernel program, with what its result array holds at the end: the value the last
   host operation computes from what the second region leaves. -/
module

public import proofs.«01_k».proof.Proof.Gen.KernelIdeal.Frame

@[expose] public section

set_option synthInstance.maxSize 4096
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources the run's assertions range over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends with the result array at the value the chain of boundary
    memories gives it and with the argument arrays unchanged. -/
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Val

end
-- ==== Proof.K.Step.lean ====
/- The attention body's vector steps at the idealized meaning, read at an index: one pair of heads accumulates the
   exponentials of the scores against the values, block by block, and divides by the accumulated ones column. -/
module

public import proofs.«01_k».proof.Proof.Gen.KernelIdeal.Skeleton
public import Idealize.ShloMosaic.Lib.WordCmp
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- An array of 2048 rows and 768 columns read at natural-number coordinates; zero outside. -/
def kv (X : FVec Ideal S2048x768 .bf16) (s e : ℕ) : EReal :=
  if h : s < 2048 ∧ e < 768 then X (ix2 ⟨s, h.1⟩ ⟨e, h.2⟩) else 0

theorem kv_of (X : FVec Ideal S2048x768 .bf16) (s e : ℕ) (hs : s < 2048) (he : e < 768) :
    kv X s e = X (ix2 ⟨s, hs⟩ ⟨e, he⟩) := dif_pos ⟨hs, he⟩

/-- The score of query row `r` of `Q` against key row `s`, over the 128 lanes of the pair that starts at column `o`. -/
def sc (Q : FVec Ideal S512x128 .bf16) (x1 : FVec Ideal S2048x768 .bf16) (o : ℕ) (r : Fin 512) (s : ℕ) : EReal :=
  ∑ d : Fin 128, Q (ix2 r d) * kv x1 s (o + d)

/-- The value row `s` at lane `l`, with one in the lanes of the other head of the pair. -/
def vv (lo : Bool) (x2 : FVec Ideal S2048x768 .bf16) (o s : ℕ) (l : Fin 128) : EReal :=
  if decide (l.val < 64) = lo then kv x2 s (o + l) else 1

/-- The accumulator after `n` whole key blocks. -/
def accF (lo : Bool) (Q : FVec Ideal S512x128 .bf16) (x1 x2 : FVec Ideal S2048x768 .bf16) (o n : ℕ) :
    FVec Ideal S512x128 .f32 :=
  fun y => ∑ s ∈ Finset.range (512 * n), Ideal.exp (sc Q x1 o (y 0) s) * vv lo x2 o s (y 1)

/-- The accumulator after the diagonal block: every key row, the ones after the query row weighted by nothing. -/
def finF (lo : Bool) (Q : FVec Ideal S512x128 .bf16) (x1 x2 : FVec Ideal S2048x768 .bf16) (o n : ℕ) :
    FVec Ideal S512x128 .f32 :=
  fun y => ∑ s ∈ Finset.range 2048,
    Ideal.exp (if s ≤ 512 * n + (y 0).val then sc Q x1 o (y 0) s else ⊥) * vv lo x2 o s (y 1)

/-- The two products of a step, read at an index. -/
theorem step_apply (acc : FVec Ideal S512x128 .f32) (Q B W : FVec Ideal S512x128 .bf16) (r : Fin 512) (l : Fin 128) :
    addf acc (matmul dot_S512x512_S512x128_S512x128_1_0_0_1_n_n none (truncf .bf16 (exp
      (matmul dot_S512x128_S512x128_S512x512_1_1_0_0_n_n none Q B (constant S512x512 .f32 0x00000000#32))) bitsLt_bf16_f32)
      W (constant S512x128 .f32 0x00000000#32)) (ix2 r l)
    = acc (ix2 r l) + ∑ c : Fin 512, Ideal.exp (∑ d : Fin 128, Q (ix2 r d) * B (ix2 c d)) * W (ix2 c l) := by
  pointwise

/-- The two products of the masked step, read at an index. -/
theorem diag_apply (acc : FVec Ideal S512x128 .f32) (Q B W : FVec Ideal S512x128 .bf16) (M : IVec S512x512 1)
    (z : Ideal .f32) (r : Fin 512) (l : Fin 128) :
    addf acc (matmul dot_S512x512_S512x128_S512x128_1_0_0_1_n_n none (truncf .bf16 (exp (select M
      (matmul dot_S512x128_S512x128_S512x512_1_1_0_0_n_n none Q B (constant S512x512 .f32 0x00000000#32))
      (broadcast S512x512 z))) bitsLt_bf16_f32)
      W (constant S512x128 .f32 0x00000000#32)) (ix2 r l)
    = acc (ix2 r l) + ∑ c : Fin 512, Ideal.exp (Scalar.select (M (ix2 r c)) (∑ d : Fin 128, Q (ix2 r d) * B (ix2 c d)) z)
        * W (ix2 c l) := by
  pointwise

/-- One whole key block added to the accumulator. -/
theorem step_eq {acc : FVec Ideal S512x128 .f32} {Q B W : FVec Ideal S512x128 .bf16} (lo : Bool)
    (x1 x2 : FVec Ideal S2048x768 .bf16) (o n : ℕ) (hacc : acc = accF lo Q x1 x2 o n)
    (hB : ∀ (c : Fin 512) (d : Fin 128), B (ix2 c d) = kv x1 (512 * n + c) (o + d))
    (hW : ∀ (c : Fin 512) (l : Fin 128), W (ix2 c l) = vv lo x2 o (512 * n + c) l) :
    addf acc (matmul dot_S512x512_S512x128_S512x128_1_0_0_1_n_n none (truncf .bf16 (exp
      (matmul dot_S512x128_S512x128_S512x512_1_1_0_0_n_n none Q B (constant S512x512 .f32 0x00000000#32))) bitsLt_bf16_f32)
      W (constant S512x128 .f32 0x00000000#32)) = accF lo Q x1 x2 o (n + 1) := by
  funext y
  idx_vars y
  rw [step_apply, hacc]
  show _ + _ = ∑ s ∈ Finset.range (512 * (n + 1)), _
  rw [Nat.mul_add, Nat.mul_one, Finset.sum_range_add]
  refine congrArg₂ (· + ·) rfl ?_
  rw [Finset.sum_range]
  refine Finset.sum_congr rfl fun c _ => ?_
  rw [hW]
  simp only [hB]
  rfl

/-- The diagonal key block added to the accumulator: from there on every key row is accounted for. -/
theorem diag_eq {acc : FVec Ideal S512x128 .f32} {Q B W : FVec Ideal S512x128 .bf16} {M : IVec S512x512 1}
    {z : Ideal .f32} (lo : Bool) (x1 x2 : FVec Ideal S2048x768 .bf16) (o n : ℕ) (hn : n < 4)
    (hacc : acc = accF lo Q x1 x2 o n)
    (hB : ∀ (c : Fin 512) (d : Fin 128), B (ix2 c d) = kv x1 (512 * n + c) (o + d))
    (hW : ∀ (c : Fin 512) (l : Fin 128), W (ix2 c l) = vv lo x2 o (512 * n + c) l)
    (hM : ∀ r c : Fin 512, M (ix2 r c) = BitVec.ofBool (decide (c.val ≤ r.val))) (hz : z = (⊥ : EReal)) :
    addf acc (matmul dot_S512x512_S512x128_S512x128_1_0_0_1_n_n none (truncf .bf16 (exp (select M
      (matmul dot_S512x128_S512x128_S512x512_1_1_0_0_n_n none Q B (constant S512x512 .f32 0x00000000#32))
      (broadcast S512x512 z))) bitsLt_bf16_f32)
      W (constant S512x128 .f32 0x00000000#32)) = finF lo Q x1 x2 o n := by
  funext y
  idx_vars y
  rw [diag_apply, hacc]
  show (∑ s ∈ Finset.range (512 * n), _) + _ = ∑ s ∈ Finset.range 2048, _
  obtain ⟨k, hk⟩ : ∃ k, 2048 = 512 * n + (512 + k) := ⟨2048 - 512 * n - 512, by omega⟩
  rw [hk, Finset.sum_range_add, Finset.sum_range_add]
  refine congrArg₂ (· + ·) (Finset.sum_congr rfl fun s hs => ?_) ?_
  · rw [if_pos (by have := Finset.mem_range.1 hs; show s ≤ 512 * n + y0.val; omega)]
  · rw [Finset.sum_eq_zero (s := Finset.range k), add_zero, Finset.sum_range]
    · refine Finset.sum_congr rfl fun c _ => ?_
      rw [hW, hM, hz]
      simp only [hB]
      by_cases h : c.val ≤ y0.val
      · rw [if_pos (by show 512 * n + c.val ≤ 512 * n + y0.val; omega), decide_eq_true h]
        rfl
      · rw [if_neg (by show ¬ 512 * n + c.val ≤ 512 * n + y0.val; omega), decide_eq_false h]
        rfl
    · intro s _
      rw [if_neg (by show ¬ 512 * n + (512 + s) ≤ 512 * n + y0.val; omega)]
      show (0 : EReal) * _ = 0
      rw [zero_mul]

theorem coord_lt (i : grid1.Coords) : (i 1).val < 4 := (i 1).isLt

/-- The first loop makes one trip per whole key block before the query block. -/
theorem trips1 (i : grid1.Coords) : Scf.trips (k1_t1_loop i).lb (k1_t1_loop i).ub (k1_t1_loop i).st = (i 1).val := by
  have h := coord_lt i
  dsimp only [k1_t1_loop]
  generalize (i 1).val = n at h ⊢
  interval_cases n <;> decide

/-- The second loop, for the remainder, makes none. -/
theorem trips2 (i : grid1.Coords) : Scf.trips (k1_t2_loop i).lb (k1_t2_loop i).ub (k1_t2_loop i).st = 0 := by
  have h := coord_lt i
  dsimp only [k1_t2_loop]
  generalize (i 1).val = n at h ⊢
  interval_cases n <;> decide

theorem off1 (i : grid1.Coords) (k : Fin (k1_t1_loop i).trips) : k1_off1 i k = ![512 * k.val, 0] := by
  have hk : k.val < 4 := lt_of_lt_of_eq k.isLt (trips1 i) |>.trans (coord_lt i)
  unfold k1_off1
  generalize k.val = n at hk ⊢
  interval_cases n <;> decide

theorem off3 (i : grid1.Coords) : k1_off3 i = ![512 * (i 1).val, 0] := by
  have h := coord_lt i
  unfold k1_off3
  generalize (i 1).val = n at h ⊢
  interval_cases n <;> decide

/-- The diagonal block's mask lets the key rows up to the query row through. -/
theorem mask_apply (n : ℕ) (hn : n < 4) (v a : BitVec 32) (hv : v = BitVec.ofNat 32 n) (ha : a = BitVec.ofNat 32 n)
    (r c : Fin 512) :
    cmpi .sle (k1_pay80 v) (k1_pay79 a) (ix2 r c) = BitVec.ofBool (decide (c.val ≤ r.val)) := by
  subst hv ha
  have e1 : Scalar.muli (Scalar.addi (BitVec.ofNat 32 n) 0#32) 512#32 = BitVec.ofNat 32 (512 * n) := by
    interval_cases n <;> decide
  have e2 : Scalar.muli (BitVec.ofNat 32 n) 512#32 = BitVec.ofNat 32 (512 * n) := by
    interval_cases n <;> decide
  pointwise [k1_pay80, k1_pay79]
  rw [e1, e2]
  have hr : 512 * n + r.val < 2048 := by have := r.isLt; omega
  have hc : 512 * n + c.val < 2048 := by have := c.isLt; omega
  have e3 : (decide (c.val ≤ r.val)) = decide (512 * n + c.val ≤ 512 * n + r.val) := by
    rw [decide_eq_decide]; omega
  have e4 : ∀ a b : ℕ, IntOp.addi (BitVec.ofNat 32 a) (BitVec.ofNat 32 b) = BitVec.ofNat 32 (a + b) :=
    fun a b => (BitVec.ofNat_add a b).symm
  rw [e3, e4, e4]
  generalize 512 * n + c.val = a at *
  generalize 512 * n + r.val = b at *
  word_cmp

/-- A column slice of one loaded block of 512 rows is the array read there. -/
theorem blk_apply (X : FVec Ideal S512x768 .bf16) (x1 : FVec Ideal S2048x768 .bf16) (n : ℕ)
    (hX : ∀ (c : Fin 512) (e : Fin 768), X (ix2 c e) = kv x1 (512 * n + c) e)
    (o : ℕ) (hs : S512x768.Slices ![0, o] S512x128) (ho : o ≤ 640) (c : Fin 512) (d : Fin 128) :
    extractStridedSlice S512x128 ![0, o] X hs (ix2 c d) = kv x1 (512 * n + c) (o + d) := by
  have h : extractStridedSlice S512x128 ![0, o] X hs (ix2 c d) = X (ix2 c ⟨o + d.val, by omega⟩) := by
    refine congrArg X (funext fun a => Fin.ext ?_)
    match a with
    | ⟨0, _⟩ => exact Nat.zero_add _
    | ⟨1, _⟩ => rfl
  rw [h, hX]

/-- A loaded block of 512 rows of a whole staged array. -/
theorem load_apply (a : Memref sig .tc .vmem S2048x768 .bf16) (ha : a.IsWhole) (x1 : Vec Ideal S2048x768 .bf16)
    (off : Fin 2 → ℕ) (n : ℕ) (hn : n < 4) (hoff : off = ![512 * n, 0])
    (inb : ∀ b, off b + S512x768.size b ≤ S2048x768.size b)
    (hc : S512x768.ShapeCasts S512x768) (c : Fin 512) (e : Fin 768) :
    shapeCast S512x768 (View.readAt (Elt Ideal) a.view (Rect.unit (s := S2048x768) off S512x768.size inb).toLoadRect (ha.unread x1))
      hc (ix2 c e) = kv x1 (512 * n + c) e := by
  subst hoff
  rw [kv_of _ _ _ (by omega) e.isLt]
  simp only [View.readAt_eq_ld, ha.read_unread, shapeCast_self]
  pointwise

/-- The lanes below 64 keep their value; the others take `z`. -/
theorem lane_lt (A : FVec Ideal S512x128 .bf16) (z : Ideal .bf16) (r : Fin 512) (l : Fin 128) :
    select (cmpi .slt (iota .tc S512x128 32 [1] iota_S512x128_d1_w32) (broadcast S512x128 64#32)) A
      (broadcast S512x128 z) (ix2 r l) = if decide (l.val < 64) = true then A (ix2 r l) else z := by
  pointwise
  have := l.isLt
  word_cmp

/-- The lanes from 64 on keep their value; the others take `z`. -/
theorem lane_ge (A : FVec Ideal S512x128 .bf16) (z : Ideal .bf16) (r : Fin 512) (l : Fin 128) :
    select (cmpi .sge (iota .tc S512x128 32 [1] iota_S512x128_d1_w32) (broadcast S512x128 64#32)) A
      (broadcast S512x128 z) (ix2 r l) = if decide (l.val < 64) = false then A (ix2 r l) else z := by
  pointwise
  have := l.isLt
  word_cmp
  by_cases h : l.val < 64
  · rw [if_neg (by omega), if_neg (by omega)]
  · rw [if_pos (by omega), if_pos h]

/-- The low head's values with ones elsewhere. -/
theorem vv_lt (X : FVec Ideal S512x768 .bf16) (x2 : FVec Ideal S2048x768 .bf16) (n : ℕ)
    (hX : ∀ (c : Fin 512) (e : Fin 768), X (ix2 c e) = kv x2 (512 * n + c) e)
    (o : ℕ) (hs : S512x768.Slices ![0, o] S512x128) (ho : o ≤ 640) (c : Fin 512) (l : Fin 128) :
    select (cmpi .slt (iota .tc S512x128 32 [1] iota_S512x128_d1_w32) (broadcast S512x128 64#32))
      (extractStridedSlice S512x128 ![0, o] X hs) (broadcast S512x128 (Scalar.ofBits (F := Ideal) .bf16 0x3F80#16)) (ix2 c l)
    = vv true x2 o (512 * n + c) l := by
  rw [lane_lt, blk_apply X x2 n hX o hs ho]
  unfold vv
  pointwise

/-- The high head's values with ones elsewhere. -/
theorem vv_ge (X : FVec Ideal S512x768 .bf16) (x2 : FVec Ideal S2048x768 .bf16) (n : ℕ)
    (hX : ∀ (c : Fin 512) (e : Fin 768), X (ix2 c e) = kv x2 (512 * n + c) e)
    (o : ℕ) (hs : S512x768.Slices ![0, o] S512x128) (ho : o ≤ 640) (c : Fin 512) (l : Fin 128) :
    select (cmpi .sge (iota .tc S512x128 32 [1] iota_S512x128_d1_w32) (broadcast S512x128 64#32))
      (extractStridedSlice S512x128 ![0, o] X hs) (broadcast S512x128 (Scalar.ofBits (F := Ideal) .bf16 0x3F80#16)) (ix2 c l)
    = vv false x2 o (512 * n + c) l := by
  rw [lane_ge, blk_apply X x2 n hX o hs ho]
  unfold vv
  pointwise

/-- A whole key block added to the low head's accumulator, as the body writes it. -/
theorem step_lo {Q : FVec Ideal S512x128 .bf16} {X V : FVec Ideal S512x768 .bf16} {x1 x2 : FVec Ideal S2048x768 .bf16}
    {n : ℕ} (hX : ∀ (c : Fin 512) (e : Fin 768), X (ix2 c e) = kv x1 (512 * n + c) e)
    (hV : ∀ (c : Fin 512) (e : Fin 768), V (ix2 c e) = kv x2 (512 * n + c) e)
    (o : ℕ) (hs : S512x768.Slices ![0, o] S512x128) (ho : o ≤ 640) :
    addf (accF true Q x1 x2 o n) (matmul dot_S512x512_S512x128_S512x128_1_0_0_1_n_n none (truncf .bf16 (exp
      (matmul dot_S512x128_S512x128_S512x512_1_1_0_0_n_n none Q (extractStridedSlice S512x128 ![0, o] X hs)
        (constant S512x512 .f32 0x00000000#32))) bitsLt_bf16_f32)
      (select (cmpi .slt (iota .tc S512x128 32 [1] iota_S512x128_d1_w32) (broadcast S512x128 64#32))
        (extractStridedSlice S512x128 ![0, o] V hs) (broadcast S512x128 (Scalar.ofBits (F := Ideal) .bf16 0x3F80#16)))
      (constant S512x128 .f32 0x00000000#32)) = accF true Q x1 x2 o (n + 1) :=
  step_eq true x1 x2 o n rfl (fun c d => blk_apply X x1 n hX o hs ho c d)
    (fun c l => vv_lt V x2 n hV o hs ho c l)

/-- The diagonal key block added to the low head's accumulator, as the body writes it. -/
theorem diag_lo {Q : FVec Ideal S512x128 .bf16} {X V : FVec Ideal S512x768 .bf16} {x1 x2 : FVec Ideal S2048x768 .bf16}
    {n : ℕ} {M : IVec S512x512 1} {z : Ideal .f32} (hn : n < 4)
    (hX : ∀ (c : Fin 512) (e : Fin 768), X (ix2 c e) = kv x1 (512 * n + c) e)
    (hV : ∀ (c : Fin 512) (e : Fin 768), V (ix2 c e) = kv x2 (512 * n + c) e)
    (hM : ∀ r c : Fin 512, M (ix2 r c) = BitVec.ofBool (decide (c.val ≤ r.val))) (hz : z = (⊥ : EReal))
    (o : ℕ) (hs : S512x768.Slices ![0, o] S512x128) (ho : o ≤ 640) :
    addf (accF true Q x1 x2 o n) (matmul dot_S512x512_S512x128_S512x128_1_0_0_1_n_n none (truncf .bf16 (exp (select M
      (matmul dot_S512x128_S512x128_S512x512_1_1_0_0_n_n none Q (extractStridedSlice S512x128 ![0, o] X hs)
        (constant S512x512 .f32 0x00000000#32)) (broadcast S512x512 z))) bitsLt_bf16_f32)
      (select (cmpi .slt (iota .tc S512x128 32 [1] iota_S512x128_d1_w32) (broadcast S512x128 64#32))
        (extractStridedSlice S512x128 ![0, o] V hs) (broadcast S512x128 (Scalar.ofBits (F := Ideal) .bf16 0x3F80#16)))
      (constant S512x128 .f32 0x00000000#32)) = finF true Q x1 x2 o n :=
  diag_eq true x1 x2 o n hn rfl (fun c d => blk_apply X x1 n hX o hs ho c d)
    (fun c l => vv_lt V x2 n hV o hs ho c l) hM hz

/-- A whole key block added to the high head's accumulator, as the body writes it. -/
theorem step_hi {Q : FVec Ideal S512x128 .bf16} {X V : FVec Ideal S512x768 .bf16} {x1 x2 : FVec Ideal S2048x768 .bf16}
    {n : ℕ} (hX : ∀ (c : Fin 512) (e : Fin 768), X (ix2 c e) = kv x1 (512 * n + c) e)
    (hV : ∀ (c : Fin 512) (e : Fin 768), V (ix2 c e) = kv x2 (512 * n + c) e)
    (o : ℕ) (hs : S512x768.Slices ![0, o] S512x128) (ho : o ≤ 640) :
    addf (accF false Q x1 x2 o n) (matmul dot_S512x512_S512x128_S512x128_1_0_0_1_n_n none (truncf .bf16 (exp
      (matmul dot_S512x128_S512x128_S512x512_1_1_0_0_n_n none Q (extractStridedSlice S512x128 ![0, o] X hs)
        (constant S512x512 .f32 0x00000000#32))) bitsLt_bf16_f32)
      (select (cmpi .sge (iota .tc S512x128 32 [1] iota_S512x128_d1_w32) (broadcast S512x128 64#32))
        (extractStridedSlice S512x128 ![0, o] V hs) (broadcast S512x128 (Scalar.ofBits (F := Ideal) .bf16 0x3F80#16)))
      (constant S512x128 .f32 0x00000000#32)) = accF false Q x1 x2 o (n + 1) :=
  step_eq false x1 x2 o n rfl (fun c d => blk_apply X x1 n hX o hs ho c d)
    (fun c l => vv_ge V x2 n hV o hs ho c l)

/-- The diagonal key block added to the high head's accumulator, as the body writes it. -/
theorem diag_hi {Q : FVec Ideal S512x128 .bf16} {X V : FVec Ideal S512x768 .bf16} {x1 x2 : FVec Ideal S2048x768 .bf16}
    {n : ℕ} {M : IVec S512x512 1} {z : Ideal .f32} (hn : n < 4)
    (hX : ∀ (c : Fin 512) (e : Fin 768), X (ix2 c e) = kv x1 (512 * n + c) e)
    (hV : ∀ (c : Fin 512) (e : Fin 768), V (ix2 c e) = kv x2 (512 * n + c) e)
    (hM : ∀ r c : Fin 512, M (ix2 r c) = BitVec.ofBool (decide (c.val ≤ r.val))) (hz : z = (⊥ : EReal))
    (o : ℕ) (hs : S512x768.Slices ![0, o] S512x128) (ho : o ≤ 640) :
    addf (accF false Q x1 x2 o n) (matmul dot_S512x512_S512x128_S512x128_1_0_0_1_n_n none (truncf .bf16 (exp (select M
      (matmul dot_S512x128_S512x128_S512x512_1_1_0_0_n_n none Q (extractStridedSlice S512x128 ![0, o] X hs)
        (constant S512x512 .f32 0x00000000#32)) (broadcast S512x512 z))) bitsLt_bf16_f32)
      (select (cmpi .sge (iota .tc S512x128 32 [1] iota_S512x128_d1_w32) (broadcast S512x128 64#32))
        (extractStridedSlice S512x128 ![0, o] V hs) (broadcast S512x128 (Scalar.ofBits (F := Ideal) .bf16 0x3F80#16)))
      (constant S512x128 .f32 0x00000000#32)) = finF false Q x1 x2 o n :=
  diag_eq false x1 x2 o n hn rfl (fun c d => blk_apply X x1 n hX o hs ho c d)
    (fun c l => vv_ge V x2 n hV o hs ho c l) hM hz
-- ==== Proof.K.Trip.lean ====
/- The key-block loop of the attention body: after `n` trips every accumulator is the sum over the first `n` blocks. -/
module

public import proofs.«01_k».proof.Proof.Gen.KernelIdeal.Loops
public import proofs.«01_k».proof.Proof.K.Step
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable (𝒱 : Variants) (c : Dev nD) (bd : Option 𝒱.V) (i : grid1.Coords) (arg2 : Memref sig .tc .vmem S512x768 .bf16) (harg2 : arg2.IsWhole) (arg3 : Memref sig .tc .vmem S2048x768 .bf16) (harg3 : arg3.IsWhole) (arg4 : Memref sig .tc .vmem S2048x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg1 : BitVec 32) (v64 : FVec Ideal S512x128 .f32) (v82 : BitVec 32)
  (L H : Fin 6 → FVec Ideal S512x128 .bf16) (x1 x2 : Vec Ideal S2048x768 .bf16)

/-- The twelve accumulators after `n` whole key blocks: for each pair of heads the low one, then the high one. -/
def accT (n : ℕ) : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32 :=
  (accF true (L 0) x1 x2 0 n, accF false (H 0) x1 x2 0 n, accF true (L 1) x1 x2 128 n, accF false (H 1) x1 x2 128 n, accF true (L 2) x1 x2 256 n, accF false (H 2) x1 x2 256 n, accF true (L 3) x1 x2 384 n, accF false (H 3) x1 x2 384 n, accF true (L 4) x1 x2 512 n, accF false (H 4) x1 x2 512 n, accF true (L 5) x1 x2 640 n, accF false (H 5) x1 x2 640 n)

/-- One trip adds one key block to every accumulator. -/
theorem trip_eq (k : Fin (k1_t1_loop i).trips) :
    tripR_k1_t1 (F := Ideal) 𝒱 c bd i arg2 harg2 arg3 harg3 arg4 harg4 arg5 harg5 arg6 harg6 arg7 harg7 arg1 (iota .tc S512x128 32 [1] iota_S512x128_d1_w32) (L 0) (L 1) (L 2) (L 3) (L 4) (L 5) (H 0) (H 1) (H 2) (H 3) (H 4) (H 5) v64 v82 (Scalar.ofBits .bf16 0x3F80#16) (harg3.unread x1) (harg4.unread x2) k (accT L H x1 x2 k.val) = accT L H x1 x2 (k.val + 1) := by
  have hk : k.val < 4 := lt_of_lt_of_eq k.isLt (trips1 i) |>.trans (coord_lt i)
  unfold tripR_k1_t1 trip_k1_t1 accT
  sl_unfold_run_names
  dsimp only [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay65, k1_pay66, k1_pay67, k1_pay68, k1_pay69, k1_pay70]
  have hK := load_apply arg3 harg3 x1 (k1_off1 i k) k.val hk (off1 i k) (k1_off1_inb i k) shapeCasts_S512x768_S512x768
  have hV := load_apply arg4 harg4 x2 (k1_off1 i k) k.val hk (off1 i k) (k1_off1_inb i k) shapeCasts_S512x768_S512x768
  exact congrArg₂ Prod.mk (step_lo hK hV _ _ (by decide)) (congrArg₂ Prod.mk (step_hi hK hV _ _ (by decide)) (congrArg₂ Prod.mk (step_lo hK hV _ _ (by decide)) (congrArg₂ Prod.mk (step_hi hK hV _ _ (by decide)) (congrArg₂ Prod.mk (step_lo hK hV _ _ (by decide)) (congrArg₂ Prod.mk (step_hi hK hV _ _ (by decide)) (congrArg₂ Prod.mk (step_lo hK hV _ _ (by decide)) (congrArg₂ Prod.mk (step_hi hK hV _ _ (by decide)) (congrArg₂ Prod.mk (step_lo hK hV _ _ (by decide)) (congrArg₂ Prod.mk (step_hi hK hV _ _ (by decide)) (congrArg₂ Prod.mk (step_lo hK hV _ _ (by decide)) (step_hi hK hV _ _ (by decide))))))))))))

/-- Before any trip nothing is accumulated. -/
theorem accF_zero (lo : Bool) (Q : FVec Ideal S512x128 .bf16) (o : ℕ) : accF lo Q x1 x2 o 0 = k1_pay64 := by
  funext y
  pointwise [k1_pay64]
  simp [accF]

/-- After `n` trips the accumulators are the sums over the first `n` blocks. -/
theorem loop_eq (n : ℕ) (hn : n ≤ (k1_t1_loop i).trips) :
    st_k1_t1 (F := Ideal) 𝒱 c bd i arg2 harg2 arg3 harg3 arg4 harg4 arg5 harg5 arg6 harg6 arg7 harg7 arg1 (iota .tc S512x128 32 [1] iota_S512x128_d1_w32) (L 0) (L 1) (L 2) (L 3) (L 4) (L 5) (H 0) (H 1) (H 2) (H 3) (H 4) (H 5) v64 v82 (Scalar.ofBits .bf16 0x3F80#16) (harg3.unread x1) (harg4.unread x2) (k1_pay64, k1_pay64, k1_pay64, k1_pay64, k1_pay64, k1_pay64, k1_pay64, k1_pay64, k1_pay64, k1_pay64, k1_pay64, k1_pay64) n = accT L H x1 x2 n := by
  induction n with
  | zero =>
    rw [st_k1_t1_zero]
    simp only [accT, accF_zero]
  | succ n ih =>
    have h := st_k1_t1_succ (F := Ideal) 𝒱 c bd i arg2 harg2 arg3 harg3 arg4 harg4 arg5 harg5 arg6 harg6 arg7 harg7 arg1 (iota .tc S512x128 32 [1] iota_S512x128_d1_w32) (L 0) (L 1) (L 2) (L 3) (L 4) (L 5) (H 0) (H 1) (H 2) (H 3) (H 4) (H 5) v64 v82 (Scalar.ofBits .bf16 0x3F80#16) (harg3.unread x1) (harg4.unread x2) (k1_pay64, k1_pay64, k1_pay64, k1_pay64, k1_pay64, k1_pay64, k1_pay64, k1_pay64, k1_pay64, k1_pay64, k1_pay64, k1_pay64) ⟨n, hn⟩
    rw [ih (Nat.le_of_lt hn)] at h
    exact h.trans (trip_eq 𝒱 c bd i arg2 harg2 arg3 harg3 arg4 harg4 arg5 harg5 arg6 harg6 arg7 harg7 arg1 v64 v82 L H x1 x2 ⟨n, hn⟩)
-- ==== Proof.K.Out.lean ====
/- What one grid point of the attention region leaves in its output block, as one expression of its input blocks. -/
module

public import proofs.«01_k».proof.Proof.Gen.KernelIdeal.Frame
public import proofs.«01_k».proof.Proof.K.Trip
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

theorem hz : (![0, 0] : Fin 2 → Nat) = fun _ => 0 := funext fun a => by fin_cases a <;> rfl

/-- A pair's query lanes with the lanes of the other head at zero. -/
def qm (lo : Bool) (x0 : Vec Ideal S512x768 .bf16) (p : Fin 6) : FVec Ideal S512x128 .bf16 :=
  fun y => if decide ((y 1).val < 64) = lo then x0 (ix2 (y 0) ⟨128 * p.val + (y 1).val, by
    have h : (y 1).val < 128 := (y 1).isLt
    omega⟩) else 0

/-- The low head's masked queries, as the body computes them. -/
theorem qm_lt (x0 : Vec Ideal S512x768 .bf16) (p : Fin 6) (o : ℕ) (ho : o = 128 * p.val)
    (hs : S512x768.Slices ![0, o] S512x128) :
    select (cmpi .slt (iota .tc S512x128 32 [1] iota_S512x128_d1_w32) (broadcast S512x128 64#32))
      (extractStridedSlice S512x128 ![0, o] x0 hs) (broadcast S512x128 (Scalar.ofBits (F := Ideal) .bf16 0x0000#16))
    = qm true x0 p := by
  subst ho
  funext y
  idx_vars y
  rw [lane_lt]
  unfold qm
  pointwise

/-- The high head's masked queries, as the body computes them. -/
theorem qm_ge (x0 : Vec Ideal S512x768 .bf16) (p : Fin 6) (o : ℕ) (ho : o = 128 * p.val)
    (hs : S512x768.Slices ![0, o] S512x128) :
    select (cmpi .sge (iota .tc S512x128 32 [1] iota_S512x128_d1_w32) (broadcast S512x128 64#32))
      (extractStridedSlice S512x128 ![0, o] x0 hs) (broadcast S512x128 (Scalar.ofBits (F := Ideal) .bf16 0x0000#16))
    = qm false x0 p := by
  subst ho
  funext y
  idx_vars y
  rw [lane_ge]
  unfold qm
  pointwise

/-- The number of whole key blocks before the query block, as the body computes it by a floor division. -/
theorem quot_word (n : ℕ) (hn : n < 4) :
    Scalar.select
      (Scalar.andi
        (Scalar.cmpi .ne
          (Scalar.subi (Scalar.extui (Scalar.cmpi .sgt (Scalar.muli (BitVec.ofNat 32 n) 512#32) 0#32))
            (Scalar.extui (Scalar.cmpi .slt (Scalar.muli (BitVec.ofNat 32 n) 512#32) 0#32)))
          1#32)
        (Scalar.cmpi .ne (Scalar.remsi (Scalar.muli (BitVec.ofNat 32 n) 512#32) 512#32) 0#32))
      (Scalar.subi (Scalar.divsi (Scalar.muli (BitVec.ofNat 32 n) 512#32) 512#32) 1#32)
      (Scalar.divsi (Scalar.muli (BitVec.ofNat 32 n) 512#32) 512#32) = BitVec.ofNat 32 n := by
  interval_cases n <;> decide

/-- The mask's word stands for minus infinity. -/
theorem mask_bot : (Named.named (F := Ideal) κ "mask" (φ := .f32) 0xF149F2CA#32 : Ideal .f32) = (⊥ : EReal) :=
  IdealRules.named_const.ideal_named_scalar _ _ _ _ rfl

variable (c : Dev nD) (i : grid1.Coords) (arg2 : Memref sig .tc .vmem S512x768 .bf16) (harg2 : arg2.IsWhole) (arg3 : Memref sig .tc .vmem S2048x768 .bf16) (harg3 : arg3.IsWhole) (arg4 : Memref sig .tc .vmem S2048x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole)
    (x0 : Vec Ideal S512x768 .bf16) (x1 : Vec Ideal S2048x768 .bf16) (x2 : Vec Ideal S2048x768 .bf16) (x3 : Vec Ideal S768x768 .bf16) (x4 : Vec Ideal S1x768 .f32)

/-- One pair's normalised rows: the low lanes over the low accumulator's first ones column, the high lanes over the
    high accumulator's. -/
abbrev pairF (p : Fin 6) : FVec Ideal S512x128 .bf16 :=
  k1_pay117 (iota .tc S512x128 32 [1] iota_S512x128_d1_w32)
    (finF true (qm true x0 p) x1 x2 (128 * p.val) (i 1).val) (finF false (qm false x0 p) x1 x2 (128 * p.val) (i 1).val)

/-- The block the body stores: the six pairs side by side, projected, the bias added. -/
theorem out_form : out1_A_5 (F := Ideal) c i arg2 harg2 arg3 harg3 arg4 harg4 arg5 harg5 arg6 harg6 arg7 harg7 x0 x1 x2 x3 x4 =
    addf (matmul dot_S512x768_S768x768_S512x768_1_0_0_1_n_n none
      (concatenate S512x768 1 [⟨S512x128, pairF i x0 x1 x2 0⟩, ⟨S512x128, pairF i x0 x1 x2 1⟩, ⟨S512x128, pairF i x0 x1 x2 2⟩, ⟨S512x128, pairF i x0 x1 x2 3⟩, ⟨S512x128, pairF i x0 x1 x2 4⟩, ⟨S512x128, pairF i x0 x1 x2 5⟩]
        concatenates_S512x128_S512x128_S512x128_S512x128_S512x128_S512x128_S512x768_d1)
      (show FVec Ideal S768x768 .bf16 from x3) (constant S512x768 .f32 0x00000000#32)) (broadcastTo S512x768 x4 broadcasts_S1x768_S512x768) := by
  have hn := coord_lt i
  unfold out1_A_5
  rw [View.read_writes_eq_canon _ _ _ (cover1_A_5 c i arg2 harg2 arg3 harg3 arg4 harg4 arg5 harg5 arg6 harg6 arg7 harg7 x0 x1 x2 x3 x4)]
  unfold kernelRun1_A
  dsimp only
  rw [View.canon_unit_zero hz]
  sl_unfold_run_names
  have hq : View.readAt (Elt Ideal) arg2.view (Rect.unit (s := S512x768) ![0, 0] S512x768.size inb_S512x768_S512x768_0_0).toLoadRect
      (harg2.unread x0) = x0 := by
    simp only [View.readAt_eq_ld, harg2.read_unread, View.ld_unit_zero (S := S512x768) hz]
  have hp : View.readAt (Elt Ideal) arg5.view (Rect.unit (s := S768x768) ![0, 0] S768x768.size inb_S768x768_S768x768_0_0).toLoadRect
      (harg5.unread x3) = x3 := by
    simp only [View.readAt_eq_ld, harg5.read_unread, View.ld_unit_zero (S := S768x768) hz]
  have hb : View.readAt (Elt Ideal) arg6.view (Rect.unit (s := S1x768) ![0, 0] S1x768.size inb_S1x768_S1x768_0_0).toLoadRect
      (harg6.unread x4) = x4 := by
    simp only [View.readAt_eq_ld, harg6.read_unread, View.ld_unit_zero (S := S1x768) hz]
  rw [trips2 i]
  simp only [st_k1_t2_zero]
  have hl0 : k1_pay51 x0 = qm true x0 0 := by
    simp only [k1_pay51, k1_pay50, shapeCast_self]
    exact qm_lt x0 0 0 rfl _
  have hl1 : k1_pay52 x0 = qm true x0 1 := by
    simp only [k1_pay52, k1_pay50, shapeCast_self]
    exact qm_lt x0 1 128 rfl _
  have hl2 : k1_pay53 x0 = qm true x0 2 := by
    simp only [k1_pay53, k1_pay50, shapeCast_self]
    exact qm_lt x0 2 256 rfl _
  have hl3 : k1_pay54 x0 = qm true x0 3 := by
    simp only [k1_pay54, k1_pay50, shapeCast_self]
    exact qm_lt x0 3 384 rfl _
  have hl4 : k1_pay55 x0 = qm true x0 4 := by
    simp only [k1_pay55, k1_pay50, shapeCast_self]
    exact qm_lt x0 4 512 rfl _
  have hl5 : k1_pay56 x0 = qm true x0 5 := by
    simp only [k1_pay56, k1_pay50, shapeCast_self]
    exact qm_lt x0 5 640 rfl _
  have hh0 : k1_pay57 x0 = qm false x0 0 := by
    simp only [k1_pay57, k1_pay58, k1_pay50, shapeCast_self]
    exact qm_ge x0 0 0 rfl _
  have hh1 : k1_pay59 (k1_pay50 x0) k1_pay58 = qm false x0 1 := by
    simp only [k1_pay59, k1_pay58, k1_pay50, shapeCast_self]
    exact qm_ge x0 1 128 rfl _
  have hh2 : k1_pay60 (k1_pay50 x0) (iota .tc S512x128 32 [1] iota_S512x128_d1_w32) = qm false x0 2 := by
    simp only [k1_pay60, k1_pay58, k1_pay50, shapeCast_self]
    exact qm_ge x0 2 256 rfl _
  have hh3 : k1_pay61 (k1_pay50 x0) (iota .tc S512x128 32 [1] iota_S512x128_d1_w32) = qm false x0 3 := by
    simp only [k1_pay61, k1_pay58, k1_pay50, shapeCast_self]
    exact qm_ge x0 3 384 rfl _
  have hh4 : k1_pay62 (k1_pay50 x0) (iota .tc S512x128 32 [1] iota_S512x128_d1_w32) = qm false x0 4 := by
    simp only [k1_pay62, k1_pay58, k1_pay50, shapeCast_self]
    exact qm_ge x0 4 512 rfl _
  have hh5 : k1_pay63 (k1_pay50 x0) (iota .tc S512x128 32 [1] iota_S512x128_d1_w32) = qm false x0 5 := by
    simp only [k1_pay63, k1_pay58, k1_pay50, shapeCast_self]
    exact qm_ge x0 5 640 rfl _
  rw [hq, hp, hb]
  rw [hl0, hl1, hl2, hl3, hl4, hl5, hh0, hh1, hh2, hh3, hh4, hh5]
  rw [loop_eq Variants.none c none i arg2 harg2 arg3 harg3 arg4 harg4 arg5 harg5 arg6 harg6 arg7 harg7 _ _ _ (qm true x0) (qm false x0) x1 x2 _ le_rfl]
  rw [show (k1_t1_loop i).trips = (i 1).val from trips1 i]
  rw [quot_word (i 1).val hn]
  dsimp only [accT, k1_pay1, k1_pay77, k1_pay78, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122]
  have hX := load_apply arg3 harg3 x1 (k1_off3 i) (i 1).val hn (off3 i) (k1_off3_inb i) shapeCasts_S512x768_S512x768
  have hV := load_apply arg4 harg4 x2 (k1_off3 i) (i 1).val hn (off3 i) (k1_off3_inb i) shapeCasts_S512x768_S512x768
  have hM := mask_apply (i 1).val hn _ _ rfl rfl
  have hz := mask_bot
  rw [diag_lo hn hX hV hM hz 0 _ (by decide), diag_hi hn hX hV hM hz 0 _ (by decide)]
  rw [diag_lo hn hX hV hM hz 128 _ (by decide), diag_hi hn hX hV hM hz 128 _ (by decide)]
  rw [diag_lo hn hX hV hM hz 256 _ (by decide), diag_hi hn hX hV hM hz 256 _ (by decide)]
  rw [diag_lo hn hX hV hM hz 384 _ (by decide), diag_hi hn hX hV hM hz 384 _ (by decide)]
  rw [diag_lo hn hX hV hM hz 512 _ (by decide), diag_hi hn hX hV hM hz 512 _ (by decide)]
  rw [diag_lo hn hX hV hM hz 640 _ (by decide), diag_hi hn hX hV hM hz 640 _ (by decide)]
  simp only [shapeCast_self]
  rfl
-- ==== Proof.K.Att.lean ====
/- The attention region's output block read at an index: the weighted averages of the value rows, projected. -/
module

public import proofs.«01_k».proof.Proof.K.Out

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- A query block read at a natural-number column; zero outside. -/
def qv (x0 : FVec Ideal S512x768 .bf16) (r : Fin 512) (e : ℕ) : EReal :=
  if h : e < 768 then x0 (ix2 r ⟨e, h⟩) else 0

/-- The score of head `h`: the product of a query row with a key row over the head's 64 columns. -/
def hs (x0 : FVec Ideal S512x768 .bf16) (x1 : FVec Ideal S2048x768 .bf16) (h : ℕ) (r : Fin 512) (s : ℕ) : EReal :=
  ∑ d : Fin 64, qv x0 r (64 * h + d) * kv x1 s (64 * h + d)

/-- The weight of key row `s` for the query row `r` of block `n`. -/
def wt (x0 : FVec Ideal S512x768 .bf16) (x1 : FVec Ideal S2048x768 .bf16) (n h : ℕ) (r : Fin 512) (s : ℕ) : EReal :=
  Ideal.exp (if s ≤ 512 * n + r.val then hs x0 x1 h r s else ⊥)

/-- The attention row: the weighted value column over the weights' sum. -/
def att (x0 : FVec Ideal S512x768 .bf16) (x1 x2 : FVec Ideal S2048x768 .bf16) (n : ℕ) (r : Fin 512) (e : ℕ) : EReal :=
  Ideal.div (∑ s ∈ Finset.range 2048, wt x0 x1 n (e / 64) r s * kv x2 s e)
    (∑ s ∈ Finset.range 2048, wt x0 x1 n (e / 64) r s)

/-- The low head's masked product is the product over its 64 columns. -/
theorem sc_lt (x0 : FVec Ideal S512x768 .bf16) (x1 : FVec Ideal S2048x768 .bf16) (p : Fin 6) (r : Fin 512) (s : ℕ) :
    sc (qm true x0 p) x1 (128 * p.val) r s = hs x0 x1 (2 * p.val) r s := by
  unfold sc hs
  rw [Fin.sum_univ_add (a := 64) (b := 64) (fun d : Fin (64 + 64) =>
    qm true x0 p (ix2 r d) * kv x1 s (128 * p.val + d.val))]
  rw [Finset.sum_eq_zero (f := fun d : Fin 64 => qm true x0 p (ix2 r (Fin.natAdd 64 d)) * _), add_zero]
  · refine Finset.sum_congr rfl fun d _ => ?_
    have h1 : qm true x0 p (ix2 r (Fin.castAdd 64 d)) = qv x0 r (64 * (2 * p.val) + d.val) := by
      unfold qm qv
      rw [if_pos (by simp [ix2]), dif_pos (by omega)]
      refine congrArg x0 ?_
      refine congrArg (ix2 r) (Fin.ext ?_)
      show 128 * p.val + d.val = 64 * (2 * p.val) + d.val
      omega
    have h2 : 128 * p.val + (Fin.castAdd 64 d).val = 64 * (2 * p.val) + d.val := by
      show 128 * p.val + d.val = _
      omega
    rw [h1, h2]
  · intro d _
    have h0 : qm true x0 p (ix2 r (Fin.natAdd 64 d)) = 0 := by
      unfold qm
      rw [if_neg]
      simp [ix2]
    rw [h0, zero_mul]

/-- The high head's masked product is the product over its 64 columns. -/
theorem sc_ge (x0 : FVec Ideal S512x768 .bf16) (x1 : FVec Ideal S2048x768 .bf16) (p : Fin 6) (r : Fin 512) (s : ℕ) :
    sc (qm false x0 p) x1 (128 * p.val) r s = hs x0 x1 (2 * p.val + 1) r s := by
  unfold sc hs
  rw [Fin.sum_univ_add (a := 64) (b := 64) (fun d : Fin (64 + 64) =>
    qm false x0 p (ix2 r d) * kv x1 s (128 * p.val + d.val))]
  rw [Finset.sum_eq_zero (f := fun d : Fin 64 => qm false x0 p (ix2 r (Fin.castAdd 64 d)) * _), zero_add]
  · refine Finset.sum_congr rfl fun d _ => ?_
    have h1 : qm false x0 p (ix2 r (Fin.natAdd 64 d)) = qv x0 r (64 * (2 * p.val + 1) + d.val) := by
      unfold qm qv
      rw [if_pos (by simp [ix2]), dif_pos (by omega)]
      refine congrArg x0 ?_
      refine congrArg (ix2 r) (Fin.ext ?_)
      show 128 * p.val + (64 + d.val) = 64 * (2 * p.val + 1) + d.val
      omega
    have h2 : 128 * p.val + (Fin.natAdd 64 d).val = 64 * (2 * p.val + 1) + d.val := by
      show 128 * p.val + (64 + d.val) = _
      omega
    rw [h1, h2]
  · intro d _
    have h0 : qm false x0 p (ix2 r (Fin.castAdd 64 d)) = 0 := by
      unfold qm
      rw [if_neg]
      simp [ix2]
    rw [h0, zero_mul]

theorem finF_apply (lo : Bool) (Q : FVec Ideal S512x128 .bf16) (x1 x2 : FVec Ideal S2048x768 .bf16) (o n : ℕ)
    (r : Fin 512) (l : Fin 128) : finF lo Q x1 x2 o n (ix2 r l) = ∑ s ∈ Finset.range 2048,
      Ideal.exp (if s ≤ 512 * n + r.val then sc Q x1 o r s else ⊥) * vv lo x2 o s l := rfl

theorem vv_pos (lo : Bool) (x2 : FVec Ideal S2048x768 .bf16) (o s : ℕ) (l : Fin 128) (h : decide (l.val < 64) = lo) :
    vv lo x2 o s l = kv x2 s (o + l) := if_pos h

theorem vv_neg (lo : Bool) (x2 : FVec Ideal S2048x768 .bf16) (o s : ℕ) (l : Fin 128) (h : ¬ decide (l.val < 64) = lo) :
    vv lo x2 o s l = 1 := if_neg h

variable (i : grid1.Coords) (x0 : Vec Ideal S512x768 .bf16) (x1 x2 : Vec Ideal S2048x768 .bf16)

/-- A pair's normalised rows are the attention rows of its two heads. -/
theorem pair_apply (p : Fin 6) (r : Fin 512) (l : Fin 128) :
    pairF i x0 x1 x2 p (ix2 r l) = att x0 x1 x2 (i 1).val r (128 * p.val + l.val) := by
  have e : ∀ A B : FVec Ideal S512x128 .f32, k1_pay117 (iota .tc S512x128 32 [1] iota_S512x128_d1_w32) A B (ix2 r l)
      = if l.val < 64 then Ideal.div (A (ix2 r l)) (A (ix2 r (64 : Fin 128))) else Ideal.div (B (ix2 r l)) (B (ix2 r (0 : Fin 128))) := by
    intro A B
    pointwise [k1_pay117]
    have := l.isLt
    word_cmp
  refine (e _ _).trans ?_
  simp only [finF_apply]
  unfold att wt
  by_cases h : l.val < 64
  · rw [if_pos h, show (128 * p.val + l.val) / 64 = 2 * p.val by omega]
    refine congrArg₂ Ideal.div (Finset.sum_congr rfl fun s _ => ?_) (Finset.sum_congr rfl fun s _ => ?_)
    · rw [vv_pos _ _ _ _ _ (by simpa using h), sc_lt]
    · rw [vv_neg _ _ _ _ _ (by decide), mul_one, sc_lt]
  · rw [if_neg h, show (128 * p.val + l.val) / 64 = 2 * p.val + 1 by omega]
    refine congrArg₂ Ideal.div (Finset.sum_congr rfl fun s _ => ?_) (Finset.sum_congr rfl fun s _ => ?_)
    · rw [vv_pos _ _ _ _ _ (by simpa using h), sc_ge]
    · rw [vv_neg _ _ _ _ _ (by decide), mul_one, sc_ge]

/-- Six pieces of 128 columns side by side, read at piece `p`, lane `l`. -/
theorem cat_apply (P : Fin 6 → FVec Ideal S512x128 .bf16) (r : Fin 512) (p : Fin 6) (l : Fin 128) :
    concatenate S512x768 1 [⟨S512x128, P 0⟩, ⟨S512x128, P 1⟩, ⟨S512x128, P 2⟩, ⟨S512x128, P 3⟩, ⟨S512x128, P 4⟩, ⟨S512x128, P 5⟩]
      concatenates_S512x128_S512x128_S512x128_S512x128_S512x128_S512x128_S512x768_d1
      (ix2 r (⟨128 * p.val + l.val, by omega⟩ : Fin 768)) = P p (ix2 r l) := by
  pointwise
  fin_vals p with hp
  all_goals
    simp only [hp]
    repeat rw [dif_neg (by omega)]
    try rw [dif_pos (by omega)]
    have hl : ∀ (a : ℕ) (h : a < 128), a = l.val → (⟨a, h⟩ : Fin 128) = l := fun a h e => Fin.ext e
    rw [hl _ _ (by omega)]
    exact congrArg (fun q => P q (ix2 r l)) (Fin.ext hp.symm)

/-- The projection and the bias of a block, read at an index. -/
theorem proj_apply (C : FVec Ideal S512x768 .bf16) (x3 : FVec Ideal S768x768 .bf16) (x4 : FVec Ideal S1x768 .f32)
    (r : Fin 512) (n : Fin 768) :
    addf (matmul dot_S512x768_S768x768_S512x768_1_0_0_1_n_n none C x3 (constant S512x768 .f32 0x00000000#32))
      (broadcastTo S512x768 x4 broadcasts_S1x768_S512x768) (ix2 r n)
    = (∑ e : Fin 768, C (ix2 r e) * x3 (ix2 e n)) + x4 (ix2 0 n) := by
  pointwise

/-- What one grid point leaves, at row `r` and column `n` of its block. -/
theorem out_apply (c : Dev nD) (i : grid1.Coords) (arg2 : Memref sig .tc .vmem S512x768 .bf16) (harg2 : arg2.IsWhole) (arg3 : Memref sig .tc .vmem S2048x768 .bf16) (harg3 : arg3.IsWhole) (arg4 : Memref sig .tc .vmem S2048x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole)
    (x0 : Vec Ideal S512x768 .bf16) (x1 x2 : Vec Ideal S2048x768 .bf16) (x3 : FVec Ideal S768x768 .bf16) (x4 : FVec Ideal S1x768 .f32)
    (r : Fin 512) (n : Fin 768) :
    out1_A_5 (F := Ideal) c i arg2 harg2 arg3 harg3 arg4 harg4 arg5 harg5 arg6 harg6 arg7 harg7 x0 x1 x2 x3 x4 (ix2 r n)
    = (∑ e : Fin 768, att x0 x1 x2 (i 1).val r e * x3 (ix2 e n)) + x4 (ix2 0 n) := by
  rw [out_form]
  refine (proj_apply _ _ _ _ _).trans (congrArg (· + _) (Finset.sum_congr rfl fun e _ => ?_))
  have he : e = ⟨128 * (⟨e.val / 128, by omega⟩ : Fin 6).val + (⟨e.val % 128, by omega⟩ : Fin 128).val, by
    show 128 * (e.val / 128) + e.val % 128 < 768
    omega⟩ := Fin.ext (by show e.val = 128 * (e.val / 128) + e.val % 128; omega)
  refine congrArg (· * _) ?_
  rw [he]
  exact (cat_apply (pairF i x0 x1 x2) r _ _).trans (pair_apply i x0 x1 x2 _ r _)
-- ==== Proof.K.Arr.lean ====
/- What the two regions leave in their result arrays, index by index. -/
module

public import proofs.«01_k».proof.Proof.K.Att
public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable (V : (c : Dev nD) → (b : Ref sig .tc) → Buf (Elt Ideal) ((c : Thread nD τ).loc b))

/-- Where the windows of the first region point at each grid point. -/
theorem index0 : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

/-- The array of queries, keys and values: the rows times the weights, plus the bias, times the column
    factor. -/
def qkvF (X : FVec Ideal S2048x768 .f32) (W : FVec Ideal S768x2304 .f32) (B C : FVec Ideal S1x2304 .f32) :
    FVec Ideal S2048x2304 .bf16 :=
  fun y => ((∑ k : Fin 768, X (ix2 (y 0) k) * W (ix2 k (y 1))) + B (ix2 0 (y 1))) * C (ix2 0 (y 1))

/-- The first region leaves the array of queries, keys and values. -/
theorem final0 (c : Dev nD) : (dat0 V c).arrAt 4 cfg0.N
    = qkvF (V c main_v0) (V c main_arg1) (V c main_v5) (V c main_v4) := by
  refine (dat0 V c).arrAt_eq_of_covers 4 _ (by decide +kernel) fun t _ y => ?_
  obtain ⟨h0, h1, h2, h3, h4⟩ := index0 t
  blk_simp
  rw [after0_4]
  frame_out
  pointwise [k0_pay1, qkvF]
  blk_point [iblk0, h0, h1, h2, h3, h4]

/-- The array of queries, keys and values read at natural-number coordinates; zero outside. -/
def av (A : FVec Ideal S2048x2304 .bf16) (s e : ℕ) : EReal :=
  if h : s < 2048 ∧ e < 2304 then A (ix2 ⟨s, h.1⟩ ⟨e, h.2⟩) else 0

/-- The score of position `t` against position `s` in head `h`. -/
def scA (A : FVec Ideal S2048x2304 .bf16) (h t s : ℕ) : EReal :=
  ∑ d : Fin 64, av A t (64 * h + d) * av A s (768 + (64 * h + d))

/-- The weight of position `s` for position `t` in head `h`: none for a later position. -/
def wtA (A : FVec Ideal S2048x2304 .bf16) (h t s : ℕ) : EReal :=
  Ideal.exp (if s ≤ t then scA A h t s else ⊥)

/-- The attention output of position `t` at column `e`. -/
def attA (A : FVec Ideal S2048x2304 .bf16) (t e : ℕ) : EReal :=
  Ideal.div (∑ s ∈ Finset.range 2048, wtA A (e / 64) t s * av A s (1536 + e))
    (∑ s ∈ Finset.range 2048, wtA A (e / 64) t s)

/-- The result of the second region: the attention outputs times the projection weights, plus the bias. -/
def outF (A : FVec Ideal S2048x2304 .bf16) (Wp : FVec Ideal S768x768 .bf16) (bp : FVec Ideal S1x768 .f32) :
    FVec Ideal S2048x768 .f32 :=
  fun y => (∑ e : Fin 768, attA A (y 0).val e.val * Wp (ix2 e (y 1))) + bp (ix2 0 (y 1))

/-- A block's attention row is the whole array's, when the blocks are the array's columns. -/
theorem att_blocks (A : FVec Ideal S2048x2304 .bf16) (n : Fin 4)
    (x0 : FVec Ideal S512x768 .bf16) (x1 x2 : FVec Ideal S2048x768 .bf16)
    (h0 : ∀ (r : Fin 512) (e : Fin 768), x0 (ix2 r e) = A (ix2 ⟨512 * n.val + r.val, by omega⟩ ⟨e.val, by omega⟩))
    (h1 : ∀ (s : Fin 2048) (e : Fin 768), x1 (ix2 s e) = A (ix2 s ⟨768 + e.val, by omega⟩))
    (h2 : ∀ (s : Fin 2048) (e : Fin 768), x2 (ix2 s e) = A (ix2 s ⟨1536 + e.val, by omega⟩))
    (r : Fin 512) (e : Fin 768) : att x0 x1 x2 n.val r e.val = attA A (512 * n.val + r.val) e.val := by
  have hq : ∀ k : ℕ, k < 768 → qv x0 r k = av A (512 * n.val + r.val) k := fun k hk => by
    rw [qv, dif_pos hk, h0, av, dif_pos ⟨by omega, by omega⟩]
  have hk1 : ∀ s k : ℕ, s < 2048 → k < 768 → kv x1 s k = av A s (768 + k) := fun s k hs hk => by
    rw [kv_of _ _ _ hs hk, h1, av, dif_pos ⟨hs, by omega⟩]
  have hk2 : ∀ s k : ℕ, s < 2048 → k < 768 → kv x2 s k = av A s (1536 + k) := fun s k hs hk => by
    rw [kv_of _ _ _ hs hk, h2, av, dif_pos ⟨hs, by omega⟩]
  have hw : ∀ s ∈ Finset.range 2048, wt x0 x1 n.val (e.val / 64) r s = wtA A (e.val / 64) (512 * n.val + r.val) s := by
    intro s hm
    have hs' := Finset.mem_range.1 hm
    have : hs x0 x1 (e.val / 64) r s = scA A (e.val / 64) (512 * n.val + r.val) s :=
      Finset.sum_congr rfl fun d _ => by rw [hq _ (by omega), hk1 _ _ hs' (by omega)]
    rw [wt, wtA, this]
  unfold att attA
  rw [Finset.sum_congr rfl hw]
  refine congrArg (Ideal.div · _) (Finset.sum_congr rfl fun s hs => ?_)
  rw [hw s hs, hk2 s _ (Finset.mem_range.1 hs) (by omega)]

/-- Where the windows of the second region point at each grid point. -/
theorem index1 : ∀ t : Fin cfg1.N, win1_0.index t = ![(grid1.coords t 1).val, 0] ∧ win1_1.index t = ![0, 1]
    ∧ win1_2.index t = ![0, 2] ∧ win1_3.index t = ![0, 0] ∧ win1_4.index t = ![0, 0]
    ∧ win1_5.index t = ![(grid1.coords t 1).val, 0] :=
  (by decide +kernel : ∀ t : Fin grid1.N, _)

/-- The second region leaves the projected attention outputs. -/
theorem final1 (c : Dev nD) : (dat1 V c).arrAt 5 cfg1.N
    = outF (V c main_v6) (V c main_v7) (V c main_v8) := by
  refine (dat1 V c).arrAt_eq_of_covers 5 _ (by decide +kernel) fun t _ y => ?_
  obtain ⟨h0, h1, h2, h3, h4, h5⟩ := index1 t
  blk_simp
  rw [after1_5]
  unfold outsAt1
  idx_vars y
  refine (out_apply _ _ _ _ _ _ _ _ _ _ _ _ _ _ _ _ _ _ _ y0 y1).trans ?_
  have e0 : ∀ (r : Fin 512) (e : Fin 768), iblk1 V c 0 t (ix2 r e)
      = V c main_v6 (ix2 ⟨512 * (grid1.coords t 1).val + r.val, by have := (grid1.coords t 1).isLt; change _ < 4 at this; omega⟩ ⟨e.val, by omega⟩) := by
    intro r e
    blk_point [iblk1, h0]
  have e1 : ∀ (s : Fin 2048) (e : Fin 768), iblk1 V c 1 t (ix2 s e) = V c main_v6 (ix2 s ⟨768 + e.val, by omega⟩) := by
    intro r e
    blk_point [iblk1, h1]
  have e2 : ∀ (s : Fin 2048) (e : Fin 768), iblk1 V c 2 t (ix2 s e) = V c main_v6 (ix2 s ⟨1536 + e.val, by omega⟩) := by
    intro r e
    blk_point [iblk1, h2]
  have e3 : ∀ e : Fin 768, iblk1 V c 3 t (ix2 e y1) = V c main_v7 (ix2 e y1) := by
    intro e
    blk_point [iblk1, h3]
  have e4 : iblk1 V c 4 t (ix2 0 y1) = V c main_v8 (ix2 0 y1) := by
    blk_point [iblk1, h4]
  have e5 : ((View.whole main_v9).slice (win1_5.rect t)).emb (ix2 y0 y1)
      = ix2 ⟨512 * (grid1.coords t 1).val + y0.val, by have := (grid1.coords t 1).isLt; change _ < 4 at this; omega⟩ y1 := by
    blk_ext [h5]
  rw [e5, e4]
  refine congrArg (· + _) (Finset.sum_congr rfl fun e _ => ?_)
  rw [e3]
  exact congrArg (· * _) (att_blocks (V c main_v6) (grid1.coords t 1) _ _ _ e0 e1 e2 y0 e)

end Cert.KernelIdeal.Val
-- ==== Proof.K.Host.lean ====
/- What the host operations around the two regions leave in the arrays the regions read. -/
module

public import proofs.«01_k».proof.Proof.K.Arr

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (ρ : Dev nD → PrngReg)

/-- The input as a matrix of 2048 rows. -/
theorem V1_v0 (c : Dev nD) : V1 m ρ c main_v0
    = shapeCast S2048x768 (m ((c : Thread nD τ).loc main_arg0)) shapeCasts_S1x2048x768_S2048x768 := by
  show StableHlo.after hostOps0 _ (Proc.devRef .tc main_v0) = _
  after_results
  rfl

/-- The weights of the first region are the argument. -/
theorem V1_arg1 (c : Dev nD) : V1 m ρ c main_arg1 = m ((c : Thread nD τ).loc main_arg1) := by
  show StableHlo.after hostOps0 _ (Proc.devRef .tc main_arg1) = _
  after_results

/-- The bias as a matrix of one row. -/
theorem V1_v5 (c : Dev nD) : V1 m ρ c main_v5
    = shapeCast S1x2304 (m ((c : Thread nD τ).loc main_arg2)) shapeCasts_S2304_S1x2304 := by
  show StableHlo.after hostOps0 _ (Proc.devRef .tc main_v5) = _
  after_results
  rfl

/-- The column factors. -/
theorem V1_v4 (c : Dev nD) : V1 m ρ c main_v4
    = shapeCast S1x2304 (concatenate S2304 0
        [⟨S768, broadcastInDim S768 ![] bcast_S_S768 (constant (F := Ideal) S_ .f32 0x3E000000#32)⟩,
         ⟨S1536, broadcastInDim S1536 ![] bcast_S_S1536 (constant (F := Ideal) S_ .f32 0x3F800000#32)⟩]
        concatenates_S768_S1536_S2304_d0) shapeCasts_S2304_S1x2304 := by
  show StableHlo.after hostOps0 _ (Proc.devRef .tc main_v4) = _
  after_results
  rfl

/-- The array of queries, keys and values as the second region finds it. -/
theorem V3_v6 (c : Dev nD) : V3 m ρ c main_v6
    = qkvF (V1 m ρ c main_v0) (V1 m ρ c main_arg1) (V1 m ρ c main_v5) (V1 m ρ c main_v4) := by
  refine Eq.trans ?_ ((hF0 m ρ c 4).symm.trans (final0 (V1 m ρ) c))
  show StableHlo.after hostOps1 _ (Proc.devRef .tc main_v6) = _
  after_results

/-- The projection weights, in the narrower format. -/
theorem V3_v7 (c : Dev nD) : V3 m ρ c main_v7
    = (truncf .bf16 (show FVec Ideal S768x768 .f32 from m ((c : Thread nD τ).loc main_arg3)) bitsLt_bf16_f32 : FVec Ideal S768x768 .bf16) := by
  rw [← W2_args m ρ c main_arg3 (by decide)]
  show StableHlo.after hostOps1 _ (Proc.devRef .tc main_v7) = _
  after_results

/-- The projection bias as a matrix of one row. -/
theorem V3_v8 (c : Dev nD) : V3 m ρ c main_v8
    = shapeCast S1x768 (m ((c : Thread nD τ).loc main_arg4)) shapeCasts_S768_S1x768 := by
  rw [← W2_args m ρ c main_arg4 (by decide)]
  show StableHlo.after hostOps1 _ (Proc.devRef .tc main_v8) = _
  after_results
  rfl

/-- The kernel's result is the second region's array with a leading axis of size one. -/
theorem W5_v10 (c : Dev nD) : W5 m ρ c (Proc.devRef .tc main_v10)
    = shapeCast S1x2048x768 (outF (V3 m ρ c main_v6) (V3 m ρ c main_v7) (V3 m ρ c main_v8))
        shapeCasts_S2048x768_S1x2048x768 := by
  refine Eq.trans ?_ (congrArg (fun v => shapeCast S1x2048x768 v shapeCasts_S2048x768_S1x2048x768)
    ((hF1 m ρ c 5).symm.trans (final1 (V3 m ρ) c)))
  show StableHlo.after hostOps2 _ (Proc.devRef .tc main_v10) = _
  after_results
  rfl

end Cert.KernelIdeal.Val
-- ==== Proof.K.Ref.lean ====
/- The reference's result read at an index: the plain formula of masked softmax attention. -/
module

public import proofs.«01_k».proof.Proof.Gen.ReferenceIdeal.Run
public import Idealize.ShloMosaic.Lib.WordCmp
public import Idealize.ShloMosaic.Lib.Pointwise

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL.Sem

/-- Queries, keys and values: the input times the weights, plus the bias. -/
def qkv (x : FVec Ideal S1x2048x768 .f32) (W : FVec Ideal S768x2304 .f32) (b : FVec Ideal S2304 .f32) :
    FVec Ideal S1x2048x2304 .f32 :=
  addf (Host.dotGeneral dot_S1x2048x768_S768x2304_S1x2048x2304_2_0_01_1_n_n none x W)
    (broadcastInDim S1x2048x2304 ![0, 1, 2] bcast_S1x1x2304_S1x2048x2304_0_1_2
      (broadcastInDim S1x1x2304 ![2] bcast_S2304_S1x1x2304_2 b))

/-- The rows of 768 columns split into twelve heads of 64. -/
def split (y : FVec Ideal S1x2048x768 .f32) : FVec Ideal S1x12x2048x64 .f32 :=
  transpose S1x12x2048x64 [0, 2, 1, 3] (shapeCast _ y shapeCasts_S1x2048x768_S1x2048x12x64)
    transposes_S1x2048x12x64_S1x12x2048x64_0_2_1_3

/-- The causal mask. -/
def mask : IVec S1x12x2048x2048 1 :=
  broadcastInDim S1x12x2048x2048 ![0, 1, 2, 3] bcast_S1x1x2048x2048_S1x12x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))

/-- The masked scores. -/
def scores (q k : FVec Ideal S1x12x2048x64 .f32) : FVec Ideal S1x12x2048x2048 .f32 :=
  select mask (mulf (Host.dotGeneral dot_S1x12x2048x64_S1x12x2048x64_S1x12x2048x2048_3_3_2_2_01_01 none q k) (broadcastInDim S1x12x2048x2048 ![] bcast_S_S1x12x2048x2048 (constant S_ .f32 0x3E000000#32))) (broadcastInDim S1x12x2048x2048 ![] bcast_S_S1x12x2048x2048 (id (constant S_ .f32 0xFF800000#32)))

/-- The exponentials of the scores less their row's maximum. -/
def expo (s : FVec Ideal S1x12x2048x2048 .f32) : FVec Ideal S1x12x2048x2048 .f32 :=
  Host.exp (subf s (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) (Host.reduce FloatOps.maximumf s (constant S_ .f32 0xFF800000#32) reducesTo_S1x12x2048x2048_S1x12x2048_d3 h_S_)))))

/-- The exponentials over their row's sum. -/
def prob (e : FVec Ideal S1x12x2048x2048 .f32) : FVec Ideal S1x12x2048x2048 .f32 :=
  Host.divf e (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd e (constant S_ .f32 0x00000000#32) reducesTo_S1x12x2048x2048_S1x12x2048_d3 h_S_)))

/-- The weighted values, the heads side by side again, projected, plus the bias. -/
def outp (p : FVec Ideal S1x12x2048x2048 .f32) (v : FVec Ideal S1x12x2048x64 .f32) (Wp : FVec Ideal S768x768 .f32)
    (bp : FVec Ideal S768 .f32) : FVec Ideal S1x2048x768 .f32 :=
  addf (Host.dotGeneral dot_S1x2048x768_S768x768_S1x2048x768_2_0_01_1_n_n none (shapeCast _ (transpose S1x2048x12x64 [0, 2, 1, 3] (Host.dotGeneral dot_S1x12x2048x2048_S1x12x2048x64_S1x12x2048x64_3_2_2_3_01_01 none p v) transposes_S1x12x2048x64_S1x2048x12x64_0_2_1_3) shapeCasts_S1x2048x12x64_S1x2048x768) Wp) (broadcastInDim S1x2048x768 ![0, 1, 2] bcast_S1x1x768_S1x2048x768_0_1_2 (broadcastInDim S1x1x768 ![2] bcast_S768_S1x1x768_2 bp))

/-- The columns of the queries. -/
def colQ (a : FVec Ideal S1x2048x2304 .f32) : FVec Ideal S1x2048x768 .f32 :=
  extractStridedSlice S1x2048x768 ![0, 0, 0] a slices_S1x2048x2304_S1x2048x768_0_0_0
/-- The columns of the keys. -/
def colK (a : FVec Ideal S1x2048x2304 .f32) : FVec Ideal S1x2048x768 .f32 :=
  extractStridedSlice S1x2048x768 ![0, 0, 768] a slices_S1x2048x2304_S1x2048x768_0_0_768
/-- The columns of the values. -/
def colV (a : FVec Ideal S1x2048x2304 .f32) : FVec Ideal S1x2048x768 .f32 :=
  extractStridedSlice S1x2048x768 ![0, 0, 1536] a slices_S1x2048x2304_S1x2048x768_0_0_1536

/-- The whole reference over its arguments. -/
def ref (x : FVec Ideal S1x2048x768 .f32) (W : FVec Ideal S768x2304 .f32) (b : FVec Ideal S2304 .f32)
    (Wp : FVec Ideal S768x768 .f32) (bp : FVec Ideal S768 .f32) : FVec Ideal S1x2048x768 .f32 :=
  outp (prob (expo (scores (split (colQ (qkv x W b))) (split (colK (qkv x W b)))))) (split (colV (qkv x W b))) Wp bp

/-- The run's result is that function of the arguments. -/
theorem res_eq (m : (ℓ : Loc nD τ sig) → Buf (Elt Ideal) ℓ) (c : Dev nD) :
    Value.res_main_v37 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v37
  rfl

/-- The array of queries, keys and values read at an index. -/
theorem qkv_apply (x : FVec Ideal S1x2048x768 .f32) (W : FVec Ideal S768x2304 .f32) (b : FVec Ideal S2304 .f32)
    (t : Fin 2048) (e : Fin 2304) :
    qkv x W b (ix3 0 t e) = (∑ k : Fin 768, x (ix3 0 t k) * W (ix2 k e)) + b (ix1 e) := by
  pointwise [qkv]

/-- The heads read at an index. -/
theorem split_apply (y : FVec Ideal S1x2048x768 .f32) (h : Fin 12) (t : Fin 2048) (d : Fin 64) :
    split y (ix4 0 h t d) = y (ix3 0 t ⟨64 * h.val + d.val, by omega⟩) := by
  pointwise [split]
  exact congrArg (fun e => y (ix3 0 t e)) (Fin.ext (by show h.val * 64 + d.val = 64 * h.val + d.val; omega))

/-- The pattern of negative infinity denotes the bottom of the extended reals. -/
theorem ofBits_ninf : Ideal.ofBits .f32 0xFF800000#32 = (⊥ : EReal) := by
  simp [Ideal.ofBits, Ideal.ieee]

/-- The mask's comparison: position `s` is not after position `t`. -/
theorem sge_word (t s : Fin 2048) :
    IntOp.cmpi .sge (IntOp.addi (BitVec.ofNat 32 t.val) 0#32) (BitVec.ofNat 32 s.val)
    = BitVec.ofBool (decide (s.val ≤ t.val)) := by
  have e : IntOp.addi (BitVec.ofNat 32 t.val) 0#32 = BitVec.ofNat 32 t.val := BitVec.add_zero _
  rw [e]
  have ht := t.isLt
  have hs := s.isLt
  generalize t.val = a at *
  generalize s.val = b at *
  word_cmp

/-- The masked scores read at an index. -/
theorem scores_apply (q k : FVec Ideal S1x12x2048x64 .f32) (h : Fin 12) (t s : Fin 2048) :
    scores q k (ix4 0 h t s) = if s.val ≤ t.val then
      (∑ d : Fin 64, q (ix4 0 h t d) * k (ix4 0 h s d)) * Ideal.ofBits .f32 0x3E000000#32 else ⊥ := by
  pointwise [scores, mask, id]
  rw [sge_word, ofBits_ninf]
  by_cases hc : s.val ≤ t.val
  · rw [if_pos hc, decide_eq_true hc]; rfl
  · rw [if_neg hc, decide_eq_false hc]; rfl

/-- A row's maximum. -/
theorem rowmax_apply (z : FVec Ideal S1x12x2048x2048 .f32) (h : Fin 12) (t : Fin 2048) :
    Host.reduce FloatOps.maximumf z (constant S_ .f32 0xFF800000#32) reducesTo_S1x12x2048x2048_S1x12x2048_d3 h_S_ (ix3 0 h t)
    = Finset.univ.fold (FloatOps.maximumf : Ideal .f32 → Ideal .f32 → Ideal .f32) (Ideal.ofBits .f32 0xFF800000#32)
        fun s : Fin 2048 => z (ix4 0 h t s) :=
  (Host.reduce_eq_fold _ _ _ _ _ _).trans (Shape.ReducesTo.fold_fiber_r4_a3 _ _ _ _ _)

/-- The exponentials, for any array of row maxima. -/
theorem exp_apply (z : FVec Ideal S1x12x2048x2048 .f32) (R : FVec Ideal S1x12x2048 .f32) (h : Fin 12) (t s : Fin 2048) :
    Host.exp (subf z (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) R)))) (ix4 0 h t s)
    = Ideal.exp (z (ix4 0 h t s) - max (Ideal.ofBits .f32 0xFF800000#32) (R (ix3 0 h t))) := by
  pointwise

/-- The exponentials read at an index. -/
theorem expo_apply (z : FVec Ideal S1x12x2048x2048 .f32) (h : Fin 12) (t s : Fin 2048) :
    expo z (ix4 0 h t s)
    = Ideal.exp (z (ix4 0 h t s) - max ⊥ (Finset.univ.fold max ⊥ fun s : Fin 2048 => z (ix4 0 h t s))) := by
  refine (exp_apply z _ h t s).trans ?_
  rw [rowmax_apply, ofBits_ninf]
  rfl

/-- The normalised weights read at an index. -/
theorem prob_apply (e : FVec Ideal S1x12x2048x2048 .f32) (h : Fin 12) (t s : Fin 2048) :
    prob e (ix4 0 h t s) = Ideal.div (e (ix4 0 h t s)) (0 + ∑ s : Fin 2048, e (ix4 0 h t s)) := by
  pointwise [prob]

/-- The projected outputs read at an index. -/
theorem outp_apply (p : FVec Ideal S1x12x2048x2048 .f32) (v : FVec Ideal S1x12x2048x64 .f32) (Wp : FVec Ideal S768x768 .f32)
    (bp : FVec Ideal S768 .f32) (t : Fin 2048) (n : Fin 768) :
    outp p v Wp bp (ix3 0 t n)
    = (∑ e : Fin 768, (∑ s : Fin 2048, p (ix4 0 ⟨e.val / 64, by omega⟩ t s) * v (ix4 0 ⟨e.val / 64, by omega⟩ s ⟨e.val % 64, by omega⟩))
        * Wp (ix2 e n)) + bp (ix1 n) := by
  pointwise [outp]

/-- The columns read at an index. -/
theorem colQ_apply (a : FVec Ideal S1x2048x2304 .f32) (t : Fin 2048) (e : Fin 768) :
    colQ a (ix3 0 t e) = a (ix3 0 t ⟨e.val, by omega⟩) := by
  pointwise [colQ]
/-- The key columns read at an index. -/
theorem colK_apply (a : FVec Ideal S1x2048x2304 .f32) (t : Fin 2048) (e : Fin 768) :
    colK a (ix3 0 t e) = a (ix3 0 t ⟨768 + e.val, by omega⟩) := by
  pointwise [colK]
/-- The value columns read at an index. -/
theorem colV_apply (a : FVec Ideal S1x2048x2304 .f32) (t : Fin 2048) (e : Fin 768) :
    colV a (ix3 0 t e) = a (ix3 0 t ⟨1536 + e.val, by omega⟩) := by
  pointwise [colV]

/-- The heads of the queries, keys and values read in the array they come from. -/
theorem heads_apply (a : FVec Ideal S1x2048x2304 .f32) (h : Fin 12) (t : Fin 2048) (d : Fin 64) :
    split (colQ a) (ix4 0 h t d) = a (ix3 0 t ⟨64 * h.val + d.val, by omega⟩)
    ∧ split (colK a) (ix4 0 h t d) = a (ix3 0 t ⟨768 + (64 * h.val + d.val), by omega⟩)
    ∧ split (colV a) (ix4 0 h t d) = a (ix3 0 t ⟨1536 + (64 * h.val + d.val), by omega⟩) := by
  refine ⟨?_, ?_, ?_⟩
  · rw [split_apply, colQ_apply]
  · rw [split_apply, colK_apply]
  · rw [split_apply, colV_apply]

/-- The score of position `t` against position `s` in head `h`, masked. -/
def sR (a : FVec Ideal S1x2048x2304 .f32) (h : Fin 12) (t s : Fin 2048) : EReal :=
  if s.val ≤ t.val then
    (∑ d : Fin 64, a (ix3 0 t ⟨64 * h.val + d.val, by omega⟩) * a (ix3 0 s ⟨768 + (64 * h.val + d.val), by omega⟩))
      * Ideal.ofBits .f32 0x3E000000#32
  else ⊥

/-- The exponential of a score less its row's maximum. -/
def eR (a : FVec Ideal S1x2048x2304 .f32) (h : Fin 12) (t s : Fin 2048) : EReal :=
  Ideal.exp (sR a h t s - max ⊥ (Finset.univ.fold max ⊥ fun s : Fin 2048 => sR a h t s))

/-- The reference's attention output of position `t` in head `h`, lane `d`. -/
def attR (a : FVec Ideal S1x2048x2304 .f32) (h : Fin 12) (t : Fin 2048) (d : Fin 64) : EReal :=
  ∑ s : Fin 2048, Ideal.div (eR a h t s) (0 + ∑ s : Fin 2048, eR a h t s)
    * a (ix3 0 s ⟨1536 + (64 * h.val + d.val), by omega⟩)

/-- The reference's exponentials in the array of queries, keys and values. -/
theorem expo_scores (a : FVec Ideal S1x2048x2304 .f32) (h : Fin 12) (t s : Fin 2048) :
    expo (scores (split (colQ a)) (split (colK a))) (ix4 0 h t s) = eR a h t s := by
  have e : ∀ s : Fin 2048, scores (split (colQ a)) (split (colK a)) (ix4 0 h t s) = sR a h t s := fun s => by
    rw [scores_apply, sR]
    simp only [(heads_apply a h _ _).1, (heads_apply a h _ _).2.1]
  rw [expo_apply, eR]
  simp only [e]

/-- The reference read at an index. -/
theorem ref_apply (x : FVec Ideal S1x2048x768 .f32) (W : FVec Ideal S768x2304 .f32) (b : FVec Ideal S2304 .f32)
    (Wp : FVec Ideal S768x768 .f32) (bp : FVec Ideal S768 .f32) (t : Fin 2048) (n : Fin 768) :
    ref x W b Wp bp (ix3 0 t n)
    = (∑ e : Fin 768, attR (qkv x W b) ⟨e.val / 64, by omega⟩ t ⟨e.val % 64, by omega⟩ * Wp (ix2 e n)) + bp (ix1 n) := by
  rw [ref, outp_apply]
  refine congrArg (· + _) (Finset.sum_congr rfl fun e _ => congrArg (· * _) ?_)
  rw [attR]
  refine Finset.sum_congr rfl fun s _ => ?_
  rw [prob_apply, (heads_apply _ _ _ _).2.2]
  simp only [expo_scores]

end Cert.ReferenceIdeal.Val
-- ==== Proof.K.Soft.lean ====
/- The mathematics: softmax with the maximum taken off is the quotient of the plain sums, over real numbers. -/
module

public import Idealize.ShloMosaic.PureOps.Ideal
public import Idealize.ShloMosaic.PureOps.Ideal.Laws

@[expose] public section

noncomputable section

namespace Cert.Soft

open Idealize.ShloMosaic

/-- An extended real that is a real number. -/
def IsR (x : EReal) : Prop := ∃ r : ℝ, x = (r : EReal)

theorem isR_of {x : EReal} (h : x ≠ ⊥ ∧ x ≠ ⊤) : IsR x := ⟨x.toReal, (EReal.coe_toReal h.2 h.1).symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

/-- A sum of reals, in the extended reals, is the sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) (f : ι → EReal) (h : ∀ i, IsR (f i)) : IsR (∑ i ∈ s, f i) := by
  choose g hg using h
  exact ⟨∑ i ∈ s, g i, by rw [← sum_coe]; exact Finset.sum_congr rfl fun i _ => hg i⟩

/-- A real factor comes out of a dot product of reals. -/
theorem dot_scale {n : ℕ} (q k : Fin n → EReal) (c : EReal) (hq : ∀ d, IsR (q d)) (hk : ∀ d, IsR (k d)) (hc : IsR c) :
    ∑ d, q d * c * k d = (∑ d, q d * k d) * c := by
  choose q' hq using hq
  choose k' hk using hk
  obtain ⟨c', rfl⟩ := hc
  simp only [hq, hk, ← EReal.coe_mul, sum_coe]
  rw [Finset.sum_mul]
  exact congrArg _ (Finset.sum_congr rfl fun d _ => by ring)

/-- The fold of the maximum over values that are real or bottom, one of them real, is real. -/
theorem max_real {n : ℕ} (z : Fin n → EReal) (hz : ∀ s, z s ≠ ⊤) (i : Fin n) (hi : z i ≠ ⊥) :
    IsR (max ⊥ (Finset.univ.fold max ⊥ z)) := by
  refine isR_of ⟨?_, ?_⟩
  · refine ne_of_gt (lt_of_lt_of_le (bot_lt_iff_ne_bot.2 hi) (le_max_of_le_right ?_))
    exact (Finset.le_fold_max _).2 (Or.inr ⟨i, Finset.mem_univ _, le_rfl⟩)
  · refine ne_of_lt (max_lt bot_lt_top ?_)
    exact (Finset.fold_max_lt _).2 ⟨bot_lt_top, fun s _ => lt_top_iff_ne_top.2 (hz s)⟩

/-- A common factor of all the weights cancels in the weighted mean. -/
theorem quot {n : ℕ} (E v : Fin n → ℝ) (c : ℝ) (hc : c ≠ 0) (pos : 0 < ∑ s, E s) :
    ∑ s, Ideal.div ((E s * c : ℝ) : EReal) (0 + ∑ s, ((E s * c : ℝ) : EReal)) * (v s : EReal)
    = Ideal.div (∑ s, (E s : EReal) * (v s : EReal)) (∑ s, (E s : EReal)) := by
  have h1 : ∑ s, E s * c ≠ 0 := by
    rw [← Finset.sum_mul Finset.univ E c]; exact mul_ne_zero pos.ne' hc
  simp only [zero_add, ← EReal.coe_mul, sum_coe, Ideal.div_coe pos.ne', Ideal.div_coe h1]
  refine congrArg (fun r : ℝ => (r : EReal)) ?_
  rw [← Finset.sum_mul Finset.univ E c, Finset.sum_mul Finset.univ (fun s => E s * v s)]
  refine Finset.sum_congr rfl fun s _ => ?_
  have := pos.ne'
  field_simp

/-- Softmax with the maximum taken off, times the values, is the quotient of the plain sums. -/
theorem softmax {n : ℕ} (p : Fin n → Prop) [DecidablePred p] (a v : Fin n → EReal) (ha : ∀ s, IsR (a s))
    (hv : ∀ s, IsR (v s)) (i : Fin n) (hi : p i) (z : Fin n → EReal) (hz : ∀ s, z s = if p s then a s else ⊥) :
    ∑ s, Ideal.div (Ideal.exp (z s - max ⊥ (Finset.univ.fold max ⊥ z)))
        (0 + ∑ s, Ideal.exp (z s - max ⊥ (Finset.univ.fold max ⊥ z))) * v s
    = Ideal.div (∑ s, Ideal.exp (z s) * v s) (∑ s, Ideal.exp (z s)) := by
  choose a' ha using ha
  choose v' hv using hv
  obtain ⟨M, hM⟩ := max_real z (fun s => by
    rw [hz]; split
    · rw [ha]; exact EReal.coe_ne_top _
    · exact bot_ne_top) i (by rw [hz, if_pos hi, ha]; exact EReal.coe_ne_bot _)
  rw [hM]
  have e1 : ∀ s, Ideal.exp (z s) = ((if p s then Real.exp (a' s) else 0 : ℝ) : EReal) := fun s => by
    rw [hz]; split
    · rw [ha, Ideal.exp_coe]
    · rw [Ideal.exp_bot, EReal.coe_zero]
  have e2 : ∀ s, Ideal.exp (z s - (M : EReal)) = (((if p s then Real.exp (a' s) else 0) * Real.exp (-M) : ℝ) : EReal) := fun s => by
    rw [hz]; split
    · rw [ha, ← EReal.coe_sub, Ideal.exp_coe, sub_eq_add_neg, Real.exp_add]
    · rw [EReal.bot_sub, Ideal.exp_bot, zero_mul, EReal.coe_zero]
  have pos : 0 < ∑ s, (if p s then Real.exp (a' s) else 0 : ℝ) := by
    refine Finset.sum_pos' (fun s _ => ?_) ⟨i, Finset.mem_univ _, ?_⟩
    · split
      · exact (Real.exp_pos _).le
      · exact le_rfl
    · rw [if_pos hi]; exact Real.exp_pos _
  simp only [e1, e2, hv]
  exact quot (fun s => if p s then Real.exp (a' s) else 0) v' _ (Real.exp_pos _).ne' pos

end Cert.Soft
-- ==== Proof.K.Eq.lean ====
/- The kernel's formula and the reference's agree when the tokens, the weights and the bias are real numbers. -/
module

public import proofs.«01_k».proof.Proof.K.Host
public import proofs.«01_k».proof.Proof.K.Ref
public import proofs.«01_k».proof.Proof.K.Soft

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Cert.Soft
open Cert.ReferenceIdeal.Val (sR eR attR qkv ref)

/-- The scale's pattern denotes a real number. -/
theorem scale_real : IsR (Ideal.ofBits .f32 0x3E000000#32) := by
  refine isR_of ⟨?_, ?_⟩
  · simp only [Ideal.ofBits, Ideal.ieee]
    simp
    rw [← EReal.coe_mul]
    exact EReal.coe_ne_bot _
  · simp only [Ideal.ofBits, Ideal.ieee]
    simp
    rw [← EReal.coe_mul]
    exact EReal.coe_ne_top _

/-- The factor of a column: the scale on the queries, one elsewhere. -/
def cf (e : ℕ) : EReal := if e < 768 then Ideal.ofBits .f32 0x3E000000#32 else 1

section Att
variable (A : FVec Ideal S2048x2304 .bf16) (a : FVec Ideal Cert.ReferenceIdeal.S1x2048x2304 .f32)
    (hA : ∀ (s : Fin 2048) (e : Fin 2304), A (ix2 s e) = a (ix3 0 s e) * cf e.val)
    (ha : ∀ (s : Fin 2048) (e : Fin 2304), IsR (a (ix3 0 s e)))
include hA

/-- The array at natural-number coordinates. -/
theorem av_of (s : Fin 2048) (e : ℕ) (he : e < 2304) : av A s.val e = a (ix3 0 s ⟨e, he⟩) * cf e := by
  rw [av, dif_pos ⟨s.isLt, he⟩]
  exact hA s ⟨e, he⟩

include ha

/-- The kernel's masked score is the reference's. -/
theorem score_eq (h : Fin 12) (t s : Fin 2048) :
    (if s.val ≤ t.val then scA A h.val t.val s.val else ⊥) = sR a h t s := by
  unfold sR
  by_cases hc : s.val ≤ t.val
  · rw [if_pos hc, if_pos hc]
    refine Eq.trans (Finset.sum_congr rfl fun d _ => ?_) (dot_scale _ _ _ (fun d => ha t _) (fun d => ha s _) scale_real)
    rw [av_of A a hA t _ (by omega), av_of A a hA s _ (by omega), cf, cf, if_pos (by omega), if_neg (by omega), mul_one]
  · rw [if_neg hc, if_neg hc]

/-- The kernel's attention output is the reference's. -/
theorem att_eq (t : Fin 2048) (e : Fin 768) :
    attA A t.val e.val = attR a ⟨e.val / 64, by omega⟩ t ⟨e.val % 64, by omega⟩ := by
  have hw : ∀ s : Fin 2048, wtA A (e.val / 64) t.val s.val = Ideal.exp (sR a ⟨e.val / 64, by omega⟩ t s) := fun s =>
    congrArg Ideal.exp (score_eq A a hA ha ⟨e.val / 64, by omega⟩ t s)
  have hv : ∀ s : Fin 2048, av A s.val (1536 + e.val)
      = a (ix3 0 s ⟨1536 + (64 * (e.val / 64) + e.val % 64), by omega⟩) := fun s => by
    rw [av_of A a hA s _ (by omega), cf, if_neg (by omega), mul_one]
    exact congrArg (fun k => a (ix3 0 s k)) (Fin.ext (by show 1536 + e.val = 1536 + (64 * (e.val / 64) + e.val % 64); omega))
  unfold attA
  rw [Finset.sum_range, Finset.sum_range]
  simp only [hw, hv]
  exact (softmax (fun s : Fin 2048 => s.val ≤ t.val)
    (fun s => (∑ d : Fin 64, a (ix3 0 t ⟨64 * (e.val / 64) + d.val, by omega⟩)
      * a (ix3 0 s ⟨768 + (64 * (e.val / 64) + d.val), by omega⟩)) * Ideal.ofBits .f32 0x3E000000#32)
    (fun s => a (ix3 0 s ⟨1536 + (64 * (e.val / 64) + e.val % 64), by omega⟩))
    (fun s => (IsR.sum _ _ fun d => (ha _ _).mul (ha _ _)).mul scale_real) (fun s => ha _ _) t le_rfl
    (fun s => sR a ⟨e.val / 64, by omega⟩ t s) (fun s => rfl)).symm

end Att

/-- The column factors read at an index. -/
theorem cs_apply (e : Fin 2304) :
    shapeCast S1x2304 (concatenate S2304 0
        [⟨S768, broadcastInDim S768 ![] bcast_S_S768 (constant (F := Ideal) S_ .f32 0x3E000000#32)⟩,
         ⟨S1536, broadcastInDim S1536 ![] bcast_S_S1536 (constant (F := Ideal) S_ .f32 0x3F800000#32)⟩]
        concatenates_S768_S1536_S2304_d0) shapeCasts_S2304_S1x2304 (ix2 0 e) = cf e.val := by
  pointwise [cf]
  by_cases h : e.val < 768
  · rw [dif_pos h, if_pos h]
  · rw [dif_neg h, if_neg h]

/-- The first region's array is the reference's array of queries, keys and values, times the column factor. -/
theorem qkvF_apply (x : FVec Ideal S1x2048x768 .f32) (W : FVec Ideal S768x2304 .f32) (b : FVec Ideal S2304 .f32)
    (C : FVec Ideal S1x2304 .f32) (s : Fin 2048) (e : Fin 2304) :
    qkvF (shapeCast S2048x768 x shapeCasts_S1x2048x768_S2048x768) W (shapeCast S1x2304 b shapeCasts_S2304_S1x2304) C (ix2 s e)
    = qkv x W b (ix3 0 s e) * C (ix2 0 e) := by
  rw [Cert.ReferenceIdeal.Val.qkv_apply]
  pointwise [qkvF]

/-- The kernel's result read at an index, over its arguments. -/
theorem kernel_apply (A : FVec Ideal S2048x2304 .bf16) (Wp : FVec Ideal S768x768 .f32) (bp : FVec Ideal S768 .f32)
    (t : Fin 2048) (n : Fin 768) :
    shapeCast S1x2048x768 (outF A (truncf .bf16 Wp bitsLt_bf16_f32) (shapeCast S1x768 bp shapeCasts_S768_S1x768))
      shapeCasts_S2048x768_S1x2048x768 (ix3 0 t n)
    = (∑ e : Fin 768, attA A t.val e.val * Wp (ix2 e n)) + bp (ix1 n) := by
  pointwise [outF]

/-- Over real tokens, weights and bias, the kernel's result is the reference's. -/
theorem value_eq (m : (ℓ : Loc nD τ sig) → Buf (Elt Ideal) ℓ) (ρ : Dev nD → PrngReg) (c : Dev nD)
    (x : FVec Ideal S1x2048x768 .f32) (W : FVec Ideal S768x2304 .f32) (b : FVec Ideal S2304 .f32)
    (Wp : FVec Ideal S768x768 .f32) (bp : FVec Ideal S768 .f32)
    (e0 : m ((c : Thread nD τ).loc main_arg0) = x) (e1 : m ((c : Thread nD τ).loc main_arg1) = W)
    (e2 : m ((c : Thread nD τ).loc main_arg2) = b) (e3 : m ((c : Thread nD τ).loc main_arg3) = Wp)
    (e4 : m ((c : Thread nD τ).loc main_arg4) = bp)
    (h0 : ∀ i, x i ≠ ⊥ ∧ x i ≠ ⊤) (h1 : ∀ i, W i ≠ ⊥ ∧ W i ≠ ⊤) (h2 : ∀ i, b i ≠ ⊥ ∧ b i ≠ ⊤) :
    ref x W b Wp bp = W5 m ρ c (Proc.devRef .tc main_v10) := by
  rw [W5_v10, V3_v7, V3_v8, V3_v6, V1_v0, V1_arg1, V1_v5, V1_v4, e0, e1, e2, e3, e4]
  funext y
  idx_vars y
  obtain rfl : y0 = 0 := Fin.eq_zero y0
  refine Eq.trans ?_ (kernel_apply _ Wp bp y1 y2).symm
  rw [Cert.ReferenceIdeal.Val.ref_apply]
  refine congrArg (· + _) (Finset.sum_congr rfl fun e _ => congrArg (· * _) ?_)
  refine (att_eq _ (qkv x W b) (fun s e => ?_) (fun s e => ?_) y1 e).symm
  · exact (qkvF_apply x W b _ s e).trans (congrArg _ (cs_apply e))
  · rw [Cert.ReferenceIdeal.Val.qkv_apply]
    exact (IsR.sum _ _ fun k => (isR_of (h0 _)).mul (isR_of (h1 _))).add (isR_of (h2 _))

end Cert.KernelIdeal.Val
-- ==== Proof.lean ====
/- The proof of the claim: the frames of the three programs, what the renamed mask constant preserves, and the
   equality of the kernel's result with the reference's over real tokens, weights and bias. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.K.Pre
public import proofs.«01_k».proof.Proof.K.Run
public import proofs.«01_k».proof.Proof.K.Eq

@[expose] public section

noncomputable section

namespace Cert.Proof

open Idealize.ShloMosaic Idealize.SL.Sem

/-- The reference program terminates, leaves its arguments as they were and every counter at zero. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result and the reference's are equal over the extended reals when the tokens, the weights and the
    bias of the first projection are real numbers. -/
theorem algebraic : Cert.algebraic_KernelIdeal_ReferenceIdeal_pre_finite_inputs := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, -⟩ := hagree c
  obtain ⟨h0, h1, h2⟩ := Cert.Pre_finite_inputs.Val.finite _ _ _ _ _ _ _ _ _ (hpre c)
  refine (Cert.ReferenceIdeal.Val.res_eq m' c).trans ?_
  exact Cert.KernelIdeal.Val.value_eq m ρ c _ _ _ _ _ e0.symm e1.symm e2.symm e3.symm e4.symm
    (fun i => e0 ▸ h0 i) (fun i => e1 ▸ h1 i) (fun i => e2 ▸ h2 i)

/-- Every claim of the certificate. -/
theorem claim : Cert.Claim := by
  refine ⟨Cert.Kernel.Gen.facts, Cert.KernelIdeal.Gen.facts, Cert.ReferenceIdeal.Gen.facts, Cert.Pre_finite_inputs.Val.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial, ?_, algebraic⟩
  exact IdealRules.named_const.statement Cert.KernelIdeal.κ "mask" .f32 0xF149F2CA#32 ⊥ rfl

end Cert.Proof

end
